-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def Pre_DsaRefIdeal (m : (ℓ : Loc Cert.DsaRefIdeal.nD Cert.DsaRefIdeal.τ Cert.DsaRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
      ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
      ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
      ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3)
      ∧ r.2.mem ((c.tc : Thread Cert.DsaIdeal.nD Cert.DsaIdeal.τ).loc Cert.DsaIdeal.main_arg4) = m ((c.tc : Thread Cert.DsaIdeal.nD Cert.DsaIdeal.τ).loc Cert.DsaIdeal.main_arg4)
      ∧ r.2.mem ((c.tc : Thread Cert.DsaIdeal.nD Cert.DsaIdeal.τ).loc Cert.DsaIdeal.main_arg5) = m ((c.tc : Thread Cert.DsaIdeal.nD Cert.DsaIdeal.τ).loc Cert.DsaIdeal.main_arg5)
      ∧ r.2.mem ((c.tc : Thread Cert.DsaIdeal.nD Cert.DsaIdeal.τ).loc Cert.DsaIdeal.main_arg6) = m ((c.tc : Thread Cert.DsaIdeal.nD Cert.DsaIdeal.τ).loc Cert.DsaIdeal.main_arg6))
      ∧ r.2.sem = fun _ => 0)

def quiescent_DsaRefIdeal [hDsaRefIdeal : Cert.DsaRefIdeal.Facts] : Prop :=
  ∀ (m : (ℓ : Loc Cert.DsaRefIdeal.nD Cert.DsaRefIdeal.τ Cert.DsaRefIdeal.sig) → Buf (Elt Ideal) ℓ) (g : Dev Cert.DsaRefIdeal.nD → PrngReg), Pre_DsaRefIdeal m →
    θ_run (Cert.DsaRefIdeal.defs (F := Ideal)) (onTc (τ := Cert.DsaRefIdeal.τ) (Cert.DsaRefIdeal.main (F := Ideal))) ⟨m, fun _ => 0, g⟩ (fun r => (∀ c : Dev Cert.DsaRefIdeal.nD,
      r.2.mem ((c.tc : Thread Cert.DsaRefIdeal.nD Cert.DsaRefIdeal.τ).loc Cert.DsaRefIdeal.main_arg0) = m ((c.tc : Thread Cert.DsaRefIdeal.nD Cert.DsaRefIdeal.τ).loc Cert.DsaRefIdeal.main_arg0)
      ∧ r.2.mem ((c.tc : Thread Cert.DsaRefIdeal.nD Cert.DsaRefIdeal.τ).loc Cert.DsaRefIdeal.main_arg1) = m ((c.tc : Thread Cert.DsaRefIdeal.nD Cert.DsaRefIdeal.τ).loc Cert.DsaRefIdeal.main_arg1)
      ∧ r.2.mem ((c.tc : Thread Cert.DsaRefIdeal.nD Cert.DsaRefIdeal.τ).loc Cert.DsaRefIdeal.main_arg2) = m ((c.tc : Thread Cert.DsaRefIdeal.nD Cert.DsaRefIdeal.τ).loc Cert.DsaRefIdeal.main_arg2)
      ∧ r.2.mem ((c.tc : Thread Cert.DsaRefIdeal.nD Cert.DsaRefIdeal.τ).loc Cert.DsaRefIdeal.main_arg3) = m ((c.tc : Thread Cert.DsaRefIdeal.nD Cert.DsaRefIdeal.τ).loc Cert.DsaRefIdeal.main_arg3)
      ∧ r.2.mem ((c.tc : Thread Cert.DsaRefIdeal.nD Cert.DsaRefIdeal.τ).loc Cert.DsaRefIdeal.main_arg4) = m ((c.tc : Thread Cert.DsaRefIdeal.nD Cert.DsaRefIdeal.τ).loc Cert.DsaRefIdeal.main_arg4)
      ∧ r.2.mem ((c.tc : Thread Cert.DsaRefIdeal.nD Cert.DsaRefIdeal.τ).loc Cert.DsaRefIdeal.main_arg5) = m ((c.tc : Thread Cert.DsaRefIdeal.nD Cert.DsaRefIdeal.τ).loc Cert.DsaRefIdeal.main_arg5)
      ∧ r.2.mem ((c.tc : Thread Cert.DsaRefIdeal.nD Cert.DsaRefIdeal.τ).loc Cert.DsaRefIdeal.main_arg6) = m ((c.tc : Thread Cert.DsaRefIdeal.nD Cert.DsaRefIdeal.τ).loc Cert.DsaRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v10_0)) (v1 : (c : Dev Cert.OutProjIdeal.nD) → Buf (Elt Ideal) ((c.tc : Thread Cert.OutProjIdeal.nD Cert.OutProjIdeal.τ).loc Cert.OutProjIdeal.main_v10_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10_0) = v0 c
          ∧ r.2.mem ((c.tc : Thread Cert.OutProjIdeal.nD Cert.OutProjIdeal.τ).loc Cert.OutProjIdeal.main_v10_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v46) = v0 c
          ∧ r.2.mem ((c.tc : Thread Cert.OutProjRefIdeal.nD Cert.OutProjRefIdeal.τ).loc Cert.OutProjRefIdeal.main_v48) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_2)) (v3 : (c : Dev Cert.InProjIdeal.nD) → Buf (Elt Ideal) ((c.tc : Thread Cert.InProjIdeal.nD Cert.InProjIdeal.τ).loc Cert.InProjIdeal.main_v10_3)) (v4 : (c : Dev Cert.InProjIdeal.nD) → Buf (Elt Ideal) ((c.tc : Thread Cert.InProjIdeal.nD Cert.InProjIdeal.τ).loc Cert.InProjIdeal.main_v10_4)) (v5 : (c : Dev Cert.InProjIdeal.nD) → Buf (Elt Ideal) ((c.tc : Thread Cert.InProjIdeal.nD Cert.InProjIdeal.τ).loc Cert.InProjIdeal.main_v10_5)) (v6 : (c : Dev Cert.InProjIdeal.nD) → Buf (Elt Ideal) ((c.tc : Thread Cert.InProjIdeal.nD Cert.InProjIdeal.τ).loc Cert.InProjIdeal.main_v10_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_2) = v2 c
          ∧ r.2.mem ((c.tc : Thread Cert.InProjIdeal.nD Cert.InProjIdeal.τ).loc Cert.InProjIdeal.main_v10_3) = v3 c
          ∧ r.2.mem ((c.tc : Thread Cert.InProjIdeal.nD Cert.InProjIdeal.τ).loc Cert.InProjIdeal.main_v10_4) = v4 c
          ∧ r.2.mem ((c.tc : Thread Cert.InProjIdeal.nD Cert.InProjIdeal.τ).loc Cert.InProjIdeal.main_v10_5) = v5 c
          ∧ r.2.mem ((c.tc : Thread Cert.InProjIdeal.nD Cert.InProjIdeal.τ).loc Cert.InProjIdeal.main_v10_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v37) = v1 c
          ∧ r.2.mem ((c.tc : Thread Cert.InProjRefIdeal.nD Cert.InProjRefIdeal.τ).loc Cert.InProjRefIdeal.main_v38) = v2 c
          ∧ r.2.mem ((c.tc : Thread Cert.InProjRefIdeal.nD Cert.InProjRefIdeal.τ).loc Cert.InProjRefIdeal.main_v39) = v3 c
          ∧ r.2.mem ((c.tc : Thread Cert.InProjRefIdeal.nD Cert.InProjRefIdeal.τ).loc Cert.InProjRefIdeal.main_v40) = v4 c
          ∧ r.2.mem ((c.tc : Thread Cert.InProjRefIdeal.nD Cert.InProjRefIdeal.τ).loc Cert.InProjRefIdeal.main_v41) = v5 c
          ∧ r.2.mem ((c.tc : Thread Cert.InProjRefIdeal.nD Cert.InProjRefIdeal.τ).loc Cert.InProjRefIdeal.main_v31) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v157) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Dsa_DsaIdeal : Prop :=
  True

def Claim : Prop :=
  ∃ (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hPool : Cert.Pool.Facts) (hPoolIdeal : Cert.PoolIdeal.Facts) (hPoolRefIdeal : Cert.PoolRefIdeal.Facts) (hAda : Cert.Ada.Facts) (hAdaIdeal : Cert.AdaIdeal.Facts) (hAdaRefIdeal : Cert.AdaRefIdeal.Facts) (hDsa : Cert.Dsa.Facts) (hDsaIdeal : Cert.DsaIdeal.Facts) (hDsaRefIdeal : Cert.DsaRefIdeal.Facts) (hPre_finite_pool : Cert.Pre_finite_pool.Facts),
    quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Ada (hAda := hAda)
    ∧ quiescent_AdaIdeal (hAdaIdeal := hAdaIdeal)
    ∧ quiescent_AdaRefIdeal (hAdaRefIdeal := hAdaRefIdeal)
    ∧ quiescent_Dsa (hDsa := hDsa)
    ∧ quiescent_DsaIdeal (hDsaIdeal := hDsaIdeal)
    ∧ quiescent_DsaRefIdeal (hDsaRefIdeal := hDsaRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Ada_AdaIdeal
    ∧ algebraic_AdaIdeal_AdaRefIdeal (hAdaIdeal := hAdaIdeal) (hAdaRefIdeal := hAdaRefIdeal)
    ∧ preserves_Dsa_DsaIdeal
-- ==== Pre_finite_pool.lean ====
abbrev S8192x1024 : Shape := ⟨2, ![8192, 1024]⟩
abbrev S1x4x256x256 : Shape := ⟨4, ![1, 4, 256, 256]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S1x4x256x256 .f32) (main_arg2 : FVec F S1x1024 .f32) (main_arg3 : FVec F S1x1024 .f32) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Ffn.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S4x2048 : Shape := ⟨2, ![4, 2048]⟩
abbrev S2048x8192 : Shape := ⟨2, ![2048, 8192]⟩
abbrev S2048 : Shape := ⟨1, ![2048]⟩
abbrev S4x1x2048 : Shape := ⟨3, ![4, 1, 2048]⟩
abbrev S512x2048 : Shape := ⟨2, ![512, 2048]⟩
abbrev S2048x1024 : Shape := ⟨2, ![2048, 1024]⟩
abbrev S1024x2048 : Shape := ⟨2, ![1024, 2048]⟩
abbrev S1x1x2048 : Shape := ⟨3, ![1, 1, 2048]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S8192x2048, .f32⟩
  | .hbm, ⟨4, _⟩ => ⟨S1x2048, .f32⟩
  | .hbm, ⟨5, _⟩ => ⟨S4x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S1x2048, .f32⟩
  | .hbm, ⟨12, _⟩ => ⟨S4x1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S4x2048 : Shape := ⟨2, ![4, 2048]⟩
abbrev S4x2048x2048 : Shape := ⟨3, ![4, 2048, 2048]⟩
abbrev S2048x8192 : Shape := ⟨2, ![2048, 8192]⟩
abbrev S4x2048x8192 : Shape := ⟨3, ![4, 2048, 8192]⟩
abbrev S_ : Shape := ⟨0, ![]⟩
abbrev S4x1x2048 : Shape := ⟨3, ![4, 1, 2048]⟩
abbrev S2048 : Shape := ⟨1, ![2048]⟩
abbrev S4x2048x1 : Shape := ⟨3, ![4, 2048, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S8192x2048, .f32⟩
  | .hbm, ⟨4, _⟩ => ⟨S1x2048, .f32⟩
  | .hbm, ⟨5, _⟩ => ⟨S4x2048, .f32⟩
  | .hbm, ⟨6, _⟩ => ⟨S8192x2048, .f32⟩
  | .hbm, ⟨7, _⟩ => ⟨S4x2048x2048, .f32⟩
  | .hbm, ⟨8, _⟩ => ⟨S4x2048x2048, .f32⟩
  | .hbm, ⟨9, _⟩ => ⟨S2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S8192x2048, .f32⟩
  | .hbm, ⟨16, _⟩ => ⟨S4x2048x2048, .f32⟩
  | .hbm, ⟨17, _⟩ => ⟨S4x1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OutProj.lean ====
abbrev S8192x1024 : Shape := ⟨2, ![8192, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S4x2048 : Shape := ⟨2, ![4, 2048]⟩
abbrev S2048x2048 : Shape := ⟨2, ![2048, 2048]⟩
abbrev S8192x2048 : Shape := ⟨2, ![8192, 2048]⟩
abbrev S2048 : Shape := ⟨1, ![2048]⟩
abbrev S4x1x2048 : Shape := ⟨3, ![4, 1, 2048]⟩
abbrev S512x1024 : Shape := ⟨2, ![512, 1024]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S4x2048, .f32⟩
  | .hbm, ⟨6, _⟩ => ⟨S1x2048, .f32⟩
  | .hbm, ⟨7, _⟩ => ⟨S4x2048, .f32⟩
  | .hbm, ⟨8, _⟩ => ⟨S4x2048, .f32⟩
  | .hbm, ⟨9, _⟩ => ⟨S2048x2048, .f32⟩
  | .hbm, ⟨10, _⟩ => ⟨S2048x2048, .bf16⟩
  | .hbm, ⟨11, _⟩ => ⟨S8192x2048, .f32⟩
  | .hbm, ⟨12, _⟩ => ⟨S2048, .f32⟩
  | .hbm, ⟨13, _⟩ => ⟨S1x2048, .f32⟩
  | .hbm, ⟨14, _⟩ => ⟨S4x1x2048, .f32⟩
  | .hbm, ⟨15, _⟩ => ⟨S2048, .f32⟩
  | .hbm, ⟨16, _⟩ => ⟨S1x2048, .f32⟩
  | .hbm, ⟨17, _⟩ => ⟨S4x1x2048, .f32⟩
  | .hbm, ⟨18, _⟩ => ⟨S4x1x2048, .f32⟩
  | .hbm, ⟨19, _⟩ => ⟨S8192x2048, .f32⟩
  | .hbm, ⟨20, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S8192x1024 : Shape := ⟨2, ![8192, 1024]⟩
abbrev S1x2048x2048 : Shape := ⟨3, ![1, 2048, 2048]⟩
abbrev S4x2048x2048 : Shape := ⟨3, ![4, 2048, 2048]⟩
abbrev S1x2048 : Shape := ⟨2, ![1, 2048]⟩
abbrev S4x2048 : Shape := ⟨2, ![4, 2048]⟩
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S4x2048x2048, .f32⟩
  | .hbm, ⟨4, _⟩ => ⟨S1x2048, .f32⟩
  | .hbm, ⟨5, _⟩ => ⟨S4x2048, .f32⟩
  | .hbm, ⟨6, _⟩ => ⟨S1x2048, .f32⟩
  | .hbm, ⟨7, _⟩ => ⟨S4x2048, .f32⟩
  | .hbm, ⟨8, _⟩ => ⟨S4x2048, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S4x2048x2048, .f32⟩
  | .hbm, ⟨13, _⟩ => ⟨S2048x2048, .f32⟩
  | .hbm, ⟨14, _⟩ => ⟨S4x2048x2048, .f32⟩
  | .hbm, ⟨15, _⟩ => ⟨S4x1x2048, .f32⟩
  | .hbm, ⟨16, _⟩ => ⟨S2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x2048, .f32⟩
  | .hbm, ⟨49, _⟩ => ⟨S4x2048x2048, .f32⟩
  | .hbm, ⟨50, _⟩ => ⟨S1x1x2048, .f32⟩
  | .hbm, ⟨51, _⟩ => ⟨S4x2048x2048, .f32⟩
  | .hbm, ⟨52, _⟩ => ⟨S4x2048x2048, .f32⟩
  | .hbm, ⟨53, _⟩ => ⟨S4x1x2048, .f32⟩
  | .hbm, ⟨54, _⟩ => ⟨S_, .f32⟩
  | .hbm, ⟨55, _⟩ => ⟨S4x1x2048, .f32⟩
  | .hbm, ⟨56, _⟩ => ⟨S4x1x2048, .f32⟩
  | .hbm, ⟨57, _⟩ => ⟨S4x2048x2048, .f32⟩
  | .hbm, ⟨58, _⟩ => ⟨S4x2048x2048, .f32⟩
  | .hbm, ⟨59, _⟩ => ⟨S4x1x2048, .f32⟩
  | .hbm, ⟨60, _⟩ => ⟨S4x2048x2048, .f32⟩
  | .hbm, ⟨61, _⟩ => ⟨S4x2048x2048, .f32⟩
  | .hbm, ⟨62, _⟩ => ⟨S8192x2048, .f32⟩
  | .hbm, ⟨63, _⟩ => ⟨S8192x2048, .f32⟩
  | .hbm, ⟨64, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== InProj.lean ====
abbrev S4x2048x2048 : Shape := ⟨3, ![4, 2048, 2048]⟩
abbrev S1x2048 : Shape := ⟨2, ![1, 2048]⟩
abbrev S4x2048 : Shape := ⟨2, ![4, 2048]⟩
abbrev S1x2048x4752 : Shape := ⟨3, ![1, 2048, 4752]⟩
abbrev S_ : Shape := ⟨0, ![]⟩
abbrev S2048x4864 : Shape := ⟨2, ![2048, 4864]⟩
abbrev S2048x4752 : Shape := ⟨2, ![2048, 4752]⟩
abbrev S1 : Shape := ⟨1, ![1]⟩
abbrev S8192x2048 : Shape := ⟨2, ![8192, 2048]⟩
abbrev S2048 : Shape := ⟨1, ![2048]⟩
abbrev S4x1x2048 : Shape := ⟨3, ![4, 1, 2048]⟩
abbrev S8192x1024 : Shape := ⟨2, ![8192, 1024]⟩
abbrev S8x8192x128 : Shape := ⟨3, ![8, 8192, 128]⟩
abbrev S8192x256 : Shape := ⟨2, ![8192, 256]⟩
abbrev S16x8192x128 : Shape := ⟨3, ![16, 8192, 128]⟩
abbrev S8192x128 : Shape := ⟨2, ![8192, 128]⟩
abbrev S8192x16 : Shape := ⟨2, ![8192, 16]⟩
abbrev S512x2048 : Shape := ⟨2, ![512, 2048]⟩
abbrev S1x1x2048 : Shape := ⟨3, ![1, 1, 2048]⟩
abbrev S512x1024 : Shape := ⟨2, ![512, 1024]⟩
abbrev S8x512x128 : Shape := ⟨3, ![8, 512, 128]⟩
abbrev S512x256 : Shape := ⟨2, ![512, 256]⟩
abbrev S16x512x128 : Shape := ⟨3, ![16, 512, 128]⟩
abbrev S512x128 : Shape := ⟨2, ![512, 128]⟩
abbrev S512x16 : Shape := ⟨2, ![512, 16]⟩
abbrev S512 : Shape := ⟨1, ![512]⟩
abbrev S512x1 : Shape := ⟨2, ![512, 1]⟩
abbrev S2048x1024 : Shape := ⟨2, ![2048, 1024]⟩
abbrev S2048x128 : Shape := ⟨2, ![2048, 128]⟩
abbrev S1x512x128 : Shape := ⟨3, ![1, 512, 128]⟩
abbrev S2048x256 : Shape := ⟨2, ![2048, 256]⟩

abbrev nBuf : Space → Nat
  | .hbm => 24
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S4x2048, .f32⟩
  | .hbm, ⟨3, _⟩ => ⟨S4x2048, .f32⟩
  | .hbm, ⟨4, _⟩ => ⟨S1x2048x4752, .f32⟩
  | .hbm, ⟨5, _⟩ => ⟨S_, .bf16⟩
  | .hbm, ⟨6, _⟩ => ⟨S2048x4864, .bf16⟩
  | .hbm, ⟨7, _⟩ => ⟨S2048x4752, .f32⟩
  | .hbm, ⟨8, _⟩ => ⟨S2048x4752, .bf16⟩
  | .hbm, ⟨9, _⟩ => ⟨S_, .i32⟩
  | .hbm, ⟨10, _⟩ => ⟨S1, .i32⟩
  | .hbm, ⟨11, _⟩ => ⟨S2048x4864, .bf16⟩
  | .hbm, ⟨12, _⟩ => ⟨S8192x2048, .f32⟩
  | .hbm, ⟨13, _⟩ => ⟨S2048, .f32⟩
  | .hbm, ⟨14, _⟩ => ⟨S1x2048, .f32⟩
  | .hbm, ⟨15, _⟩ => ⟨S4x1x2048, .f32⟩
  | .hbm, ⟨16, _⟩ => ⟨S4x1x2048, .f32⟩
  | .hbm, ⟨17, _⟩ => ⟨S8192x1024, .bf16⟩
  | .hbm, ⟨18, _⟩ => ⟨S8x8192x128, .bf16⟩
  | .hbm, ⟨19, _⟩ => ⟨S8192x256, .bf16⟩
  | .hbm, ⟨20, _⟩ => ⟨S8192x256, .bf16⟩
  | .hbm, ⟨21, _⟩ => ⟨S16x8192x128, .bf16⟩
  | .hbm, ⟨22, _⟩ => ⟨S8192x128, .bf16⟩
  | .hbm, ⟨23, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x4864, .bf16⟩
  | .local _ .vmem, ⟨8, _⟩ => ⟨S512x1024, .bf16⟩
  | .local _ .vmem, ⟨9, _⟩ => ⟨S512x1024, .bf16⟩
  | .local _ .vmem, ⟨10, _⟩ => ⟨S8x512x128, .bf16⟩
  | .local _ .vmem, ⟨11, _⟩ => ⟨S8x512x128, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S16x512x128, .bf16⟩
  | .local _ .vmem, ⟨17, _⟩ => ⟨S16x512x128, .bf16⟩
  | .local _ .vmem, ⟨18, _⟩ => ⟨S512x128, .bf16⟩
  | .local _ .vmem, ⟨19, _⟩ => ⟨S512x128, .bf16⟩
  | .local _ .vmem, ⟨20, _⟩ => ⟨S512x16, .f32⟩
  | .local _ .vmem, ⟨21, _⟩ => ⟨S512x16, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S4x2048x2048 : Shape := ⟨3, ![4, 2048, 2048]⟩
abbrev S1x2048 : Shape := ⟨2, ![1, 2048]⟩
abbrev S4x2048 : Shape := ⟨2, ![4, 2048]⟩
abbrev S1x2048x4752 : Shape := ⟨3, ![1, 2048, 4752]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S2048x4752 : Shape := ⟨2, ![2048, 4752]⟩
abbrev S4x2048x4752 : Shape := ⟨3, ![4, 2048, 4752]⟩
abbrev S8192x4752 : Shape := ⟨2, ![8192, 4752]⟩
abbrev S8192x1024 : Shape := ⟨2, ![8192, 1024]⟩
abbrev S8192x256 : Shape := ⟨2, ![8192, 256]⟩
abbrev S8192x2048 : Shape := ⟨2, ![8192, 2048]⟩
abbrev S8192x128 : Shape := ⟨2, ![8192, 128]⟩
abbrev S8192x16 : Shape := ⟨2, ![8192, 16]⟩
abbrev S8192x8x128 : Shape := ⟨3, ![8192, 8, 128]⟩
abbrev S8x8192x128 : Shape := ⟨3, ![8, 8192, 128]⟩
abbrev S8192x16x128 : Shape := ⟨3, ![8192, 16, 128]⟩
abbrev S16x8192x128 : Shape := ⟨3, ![16, 8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S4x2048, .f32⟩
  | .hbm, ⟨3, _⟩ => ⟨S4x2048, .f32⟩
  | .hbm, ⟨4, _⟩ => ⟨S1x2048x4752, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S2048x4752, .f32⟩
  | .hbm, ⟨32, _⟩ => ⟨S4x2048x4752, .f32⟩
  | .hbm, ⟨33, _⟩ => ⟨S8192x4752, .f32⟩
  | .hbm, ⟨34, _⟩ => ⟨S8192x1024, .f32⟩
  | .hbm, ⟨35, _⟩ => ⟨S8192x1024, .f32⟩
  | .hbm, ⟨36, _⟩ => ⟨S8192x256, .f32⟩
  | .hbm, ⟨37, _⟩ => ⟨S8192x256, .f32⟩
  | .hbm, ⟨38, _⟩ => ⟨S8192x2048, .f32⟩
  | .hbm, ⟨39, _⟩ => ⟨S8192x128, .f32⟩
  | .hbm, ⟨40, _⟩ => ⟨S8192x16, .f32⟩
  | .hbm, ⟨41, _⟩ => ⟨S8192x8x128, .f32⟩
  | .hbm, ⟨42, _⟩ => ⟨S8x8192x128, .f32⟩
  | .hbm, ⟨43, _⟩ => ⟨S8192x16x128, .f32⟩
  | .hbm, ⟨44, _⟩ => ⟨S16x8192x128, .f32⟩
  | .hbm, ⟨45, _⟩ => ⟨S8192x1024, .bf16⟩
  | .hbm, ⟨46, _⟩ => ⟨S8x8192x128, .bf16⟩
  | .hbm, ⟨47, _⟩ => ⟨S8192x256, .bf16⟩
  | .hbm, ⟨48, _⟩ => ⟨S8192x256, .bf16⟩
  | .hbm, ⟨49, _⟩ => ⟨S16x8192x128, .bf16⟩
  | .hbm, ⟨50, _⟩ => ⟨S8192x128, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Pool.lean ====
abbrev S8192x1024 : Shape := ⟨2, ![8192, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1x4x256x256, .f32⟩
  | .hbm, ⟨2, _⟩ => ⟨S1x1024, .f32⟩
  | .hbm, ⟨3, _⟩ => ⟨S1x1024, .f32⟩
  | .hbm, ⟨4, _⟩ => ⟨S4x256x256, .f32⟩
  | .hbm, ⟨5, _⟩ => ⟨S4x256x256, .bf16⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S528x1024, .f32⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolRefIdeal.lean ====
abbrev S8192x1024 : Shape := ⟨2, ![8192, 1024]⟩
abbrev S1x4x256x256 : Shape := ⟨4, ![1, 4, 256, 256]⟩
abbrev S1x1024 : Shape := ⟨2, ![1, 1024]⟩
abbrev S4x2048x4x256 : Shape := ⟨4, ![4, 2048, 4, 256]⟩
abbrev S_ : Shape := ⟨0, ![]⟩
abbrev S4x2049x4x256 : Shape := ⟨4, ![4, 2049, 4, 256]⟩
abbrev S2048 : Shape := ⟨1, ![2048]⟩
abbrev S4x2048x1x256 : Shape := ⟨4, ![4, 2048, 1, 256]⟩
abbrev S4x2048x256 : Shape := ⟨3, ![4, 2048, 256]⟩
abbrev S2048x1 : Shape := ⟨2, ![2048, 1]⟩
abbrev S2048x2 : Shape := ⟨2, ![2048, 2]⟩
abbrev S1x2048x1 : Shape := ⟨3, ![1, 2048, 1]⟩
abbrev S4x256x256 : Shape := ⟨3, ![4, 256, 256]⟩
abbrev S4x256x4x2048 : Shape := ⟨4, ![4, 256, 4, 2048]⟩
abbrev S4x2048x1024 : Shape := ⟨3, ![4, 2048, 1024]⟩
abbrev S1024 : Shape := ⟨1, ![1024]⟩
abbrev S1x1x1024 : Shape := ⟨3, ![1, 1, 1024]⟩
abbrev S4x2048 : Shape := ⟨2, ![4, 2048]⟩
abbrev S4x2048x1 : Shape := ⟨3, ![4, 2048, 1]⟩

abbrev nBuf : Space → Nat
  | .hbm => 201
  | .vmem => 0
  | .smem => 0
  | _ => 0

abbrev hbmTy0_0 (i : Nat) : BufTy := match i % 128 with
  | 0 => ⟨S8192x1024, .bf16⟩
  | 1 => ⟨S1x4x256x256, .f32⟩
  | 2 => ⟨S1x1024, .f32⟩
  | 3 => ⟨S1x1024, .f32⟩
  | 4 => ⟨S8192x1024, .f32⟩
  | 5 => ⟨S4x2048x4x256, .f32⟩
  | 6 => ⟨S_, .f32⟩
  | 7 => ⟨S_, .f32⟩
  | 8 => ⟨S4x2048x4x256, .f32⟩
  | 9 => ⟨S_, .i32⟩
  | 10 => ⟨S_, .f32⟩
  | 11 => ⟨S4x2049x4x256, .f32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S4x2048x1x256, .f32⟩
  | 23 => ⟨S4x2048x256, .f32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048x1, .i32⟩
  | 35 => ⟨S2048x1, .i32⟩
  | 36 => ⟨S2048x2, .i32⟩
  | 37 => ⟨S4x2048x256, .f32⟩
  | 38 => ⟨S4x2048x256, .f32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S2048, .f32⟩
  | 46 => ⟨S1x2048x1, .f32⟩
  | 47 => ⟨S4x2048x256, .f32⟩
  | 48 => ⟨S4x2048x256, .f32⟩
  | 49 => ⟨S4x2048x1x256, .f32⟩
  | 50 => ⟨S4x2048x256, .f32⟩
  | 51 => ⟨S4x2048x256, .f32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S4x2048x1x256, .f32⟩
  | 62 => ⟨S4x2048x256, .f32⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048x1, .i32⟩
  | 74 => ⟨S2048x1, .i32⟩
  | 75 => ⟨S2048x2, .i32⟩
  | 76 => ⟨S4x2048x256, .f32⟩
  | 77 => ⟨S4x2048x256, .f32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S2048, .f32⟩
  | 85 => ⟨S1x2048x1, .f32⟩
  | 86 => ⟨S4x2048x256, .f32⟩
  | 87 => ⟨S4x2048x256, .f32⟩
  | 88 => ⟨S4x2048x1x256, .f32⟩
  | 89 => ⟨S4x2048x256, .f32⟩
  | 90 => ⟨S4x2048x256, .f32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S4x2048x1x256, .f32⟩
  | 101 => ⟨S4x2048x256, .f32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S_, .i32⟩
  | 110 => ⟨S2048, .i32⟩
  | 111 => ⟨S2048, .i32⟩
  | 112 => ⟨S2048x1, .i32⟩
  | 113 => ⟨S2048x1, .i32⟩
  | 114 => ⟨S2048x2, .i32⟩
  | 115 => ⟨S4x2048x256, .f32⟩
  | 116 => ⟨S4x2048x256, .f32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S2048, .f32⟩
  | 124 => ⟨S1x2048x1, .f32⟩
  | 125 => ⟨S4x2048x256, .f32⟩
  | 126 => ⟨S4x2048x256, .f32⟩
  | 127 => ⟨S4x2048x1x256, .f32⟩
  | _ => ⟨S8192x1024, .bf16⟩

abbrev hbmTy0_1 (i : Nat) : BufTy := match i % 128 with
  | 0 => ⟨S4x2048x256, .f32⟩
  | 1 => ⟨S4x2048x256, .f32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S4x2048x1x256, .f32⟩
  | 12 => ⟨S4x2048x256, .f32⟩
  | 13 => ⟨S_, .i32⟩
  | 14 => ⟨S2048, .i32⟩
  | 15 => ⟨S2048, .i1⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048x1, .i32⟩
  | 24 => ⟨S2048x1, .i32⟩
  | 25 => ⟨S2048x2, .i32⟩
  | 26 => ⟨S4x2048x256, .f32⟩
  | 27 => ⟨S4x2048x256, .f32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .f32⟩
  | 35 => ⟨S1x2048x1, .f32⟩
  | 36 => ⟨S4x2048x256, .f32⟩
  | 37 => ⟨S4x2048x256, .f32⟩
  | 38 => ⟨S4x2048x1x256, .f32⟩
  | 39 => ⟨S4x2048x256, .f32⟩
  | 40 => ⟨S4x2048x256, .f32⟩
  | 41 => ⟨S4x2048x1x256, .f32⟩
  | 42 => ⟨S4x2048x1x256, .f32⟩
  | 43 => ⟨S4x2048x1x256, .f32⟩
  | 44 => ⟨S4x2048x1x256, .f32⟩
  | 45 => ⟨S4x2048x4x256, .f32⟩
  | 46 => ⟨S4x256x256, .f32⟩
  | 47 => ⟨S4x256x4x2048, .f32⟩
  | 48 => ⟨S4x2048x4x256, .f32⟩
  | 49 => ⟨S4x2048x1024, .f32⟩
  | 50 => ⟨S1024, .f32⟩
  | 51 => ⟨S1x1x1024, .f32⟩
  | 52 => ⟨S4x2048x1024, .f32⟩
  | 53 => ⟨S4x2048x1024, .f32⟩
  | 54 => ⟨S1024, .f32⟩
  | 55 => ⟨S4x2048x1024, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S4x2048x1024, .f32⟩
  | 67 => ⟨S4x2048x1024, .f32⟩
  | 68 => ⟨S1x1x1024, .f32⟩
  | 69 => ⟨S4x2048x1024, .f32⟩
  | 70 => ⟨S4x2048x1024, .f32⟩
  | 71 => ⟨S4x2048x1024, .bf16⟩
  | 72 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_c : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_c_17 : Ref sig .tc := ⟨.hbm, 94, rfl⟩
abbrev main_v69 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_19 : Ref sig .tc := ⟨.hbm, 102, rfl⟩
abbrev main_v75 : Ref sig .tc := ⟨.hbm, 103, rfl⟩
abbrev main_v76 : Ref sig .tc := ⟨.hbm, 104, rfl⟩
abbrev main_c_20 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_21 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_22 : Ref sig .tc := ⟨.hbm, 117, rfl⟩
abbrev main_v87 : Ref sig .tc := ⟨.hbm, 118, rfl⟩
abbrev main_v88 : Ref sig .tc := ⟨.hbm, 119, rfl⟩
abbrev main_c_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_24 : Ref sig .tc := ⟨.hbm, 130, rfl⟩
abbrev main_v98 : Ref sig .tc := ⟨.hbm, 131, rfl⟩
abbrev main_v99 : Ref sig .tc := ⟨.hbm, 132, rfl⟩
abbrev main_c_25 : Ref sig .tc := ⟨.hbm, 133, rfl⟩
abbrev main_v100 : Ref sig .tc := ⟨.hbm, 134, rfl⟩
abbrev main_v101 : Ref sig .tc := ⟨.hbm, 135, rfl⟩
abbrev main_c_26 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_27 : Ref sig .tc := ⟨.hbm, 141, rfl⟩
abbrev main_v106 : Ref sig .tc := ⟨.hbm, 142, rfl⟩
abbrev main_v107 : Ref sig .tc := ⟨.hbm, 143, rfl⟩
abbrev main_c_28 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_29 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_c_30 : Ref sig .tc := ⟨.hbm, 156, rfl⟩
abbrev main_v118 : Ref sig .tc := ⟨.hbm, 157, rfl⟩
abbrev main_v119 : Ref sig .tc := ⟨.hbm, 158, rfl⟩
abbrev main_c_31 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst : Ref sig .tc := ⟨.hbm, 184, rfl⟩
abbrev main_v144 : Ref sig .tc := ⟨.hbm, 185, rfl⟩
abbrev main_v145 : Ref sig .tc := ⟨.hbm, 186, rfl⟩
abbrev main_cst_32 : Ref sig .tc := ⟨.hbm, 187, rfl⟩
abbrev main_v146 : Ref sig .tc := ⟨.hbm, 188, rfl⟩
abbrev main_v147 : Ref sig .tc := ⟨.hbm, 189, rfl⟩
abbrev main_cst_33 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩

abbrev nD : Nat := 1
abbrev τ : Topo := Topo.v7x

variable {F : FTy → Type} [FloatOps F]
-- ==== Ada.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Dsa.lean ====
abbrev S8x8192x128 : Shape := ⟨3, ![8, 8192, 128]⟩
abbrev S16x8192x128 : Shape := ⟨3, ![16, 8192, 128]⟩
abbrev S8192x16 : Shape := ⟨2, ![8192, 16]⟩
abbrev S8192x256 : Shape := ⟨2, ![8192, 256]⟩
abbrev S8192x128 : Shape := ⟨2, ![8192, 128]⟩
abbrev S1x1024 : Shape := ⟨2, ![1, 1024]⟩
abbrev S8192x1024 : Shape := ⟨2, ![8192, 1024]⟩
abbrev S8x256x128 : Shape := ⟨3, ![8, 256, 128]⟩
abbrev S16x256x128 : Shape := ⟨3, ![16, 256, 128]⟩
abbrev S256x16 : Shape := ⟨2, ![256, 16]⟩
abbrev S2048x256 : Shape := ⟨2, ![2048, 256]⟩
abbrev S2048x128 : Shape := ⟨2, ![2048, 128]⟩
abbrev S256x1024 : Shape := ⟨2, ![256, 1024]⟩
abbrev S4x256x512 : Shape := ⟨3, ![4, 256, 512]⟩
abbrev S256x512 : Shape := ⟨2, ![256, 512]⟩
abbrev S256x1 : Shape := ⟨2, ![256, 1]⟩
abbrev S512x128 : Shape := ⟨2, ![512, 128]⟩
abbrev S1x256x128 : Shape := ⟨3, ![1, 256, 128]⟩
abbrev S256x128 : Shape := ⟨2, ![256, 128]⟩
abbrev S1x256x512 : Shape := ⟨3, ![1, 256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 18
  | .smem => 0
  | _ => 0

abbrev bufTy : (tb : Table) → Fin (tcTables nBuf tb) → BufTy
  | .hbm, ⟨0, _⟩ => ⟨S8x8192x128, .bf16⟩
  | .hbm, ⟨1, _⟩ => ⟨S16x8192x128, .bf16⟩
  | .hbm, ⟨2, _⟩ => ⟨S8192x16, .f32⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S1x1024, .f32⟩
  | .hbm, ⟨7, _⟩ => ⟨S8192x1024, .bf16⟩
  | .local _ .vmem, ⟨0, _⟩ => ⟨S8x256x128, .bf16⟩
  | .local _ .vmem, ⟨1, _⟩ => ⟨S8x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S256x16, .f32⟩
  | .local _ .vmem, ⟨5, _⟩ => ⟨S256x16, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x128, .bf16⟩
  | .local _ .vmem, ⟨11, _⟩ => ⟨S2048x128, .bf16⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S4x256x512, .f32⟩
  | .local _ .vmem, ⟨16, _⟩ => ⟨S4x256x512, .f32⟩
  | .local _ .vmem, ⟨17, _⟩ => ⟨S256x1024, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v14 : BitVec 32 := Scalar.subi v4 c0_i32
  let c1_i32_5 : BitVec 32 := 1#32
  let v16 : BitVec 32 := Scalar.divsi v14 c1_i32_5
  let v17 : BitVec 32 := Scalar.muli v16 c1_i32_5
  let v18 : BitVec 32 := Scalar.addi c0_i32 v17
  let c1_i32_6 : BitVec 32 := 1#32
  ⟨c0_i32, v18, c1_i32_6⟩
def k0_mult1 (i : grid0.Coords) (k0_t1 : Fin (k0_t1_loop i).trips) : BitVec 32 :=
  let c0_i32 : BitVec 32 := 0#32
  let c1_i32_6 : BitVec 32 := 1#32
  let arg13 : BitVec 32 := Scf.iv c0_i32 c1_i32_6 k0_t1
  let c512_i32_109 : BitVec 32 := 512#32
  let v189 : BitVec 32 := Scalar.muli arg13 c512_i32_109
  v189
def k0_off1 (i : grid0.Coords) (k0_t1 : Fin (k0_t1_loop i).trips) : Fin 2 → Nat :=
  let c0_i32 : BitVec 32 := 0#32
  let c1_i32_6 : BitVec 32 := 1#32
  let arg13 : BitVec 32 := Scf.iv c0_i32 c1_i32_6 k0_t1
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off2 (i : grid0.Coords) (k0_t1 : Fin (k0_t1_loop i).trips) : Fin 3 → Nat :=
  let c0_i32 : BitVec 32 := 0#32
  let c1_i32_6 : BitVec 32 := 1#32
  let arg13 : BitVec 32 := Scf.iv c0_i32 c1_i32_6 k0_t1
  let v344 : Index := Scalar.indexCast arg13
  let c0_186 : Index := 0#32
  let c0_187 : Index := 0#32
  ![v344.toNat, 0, 0]
@[reducible] def k0_t2_loop (i : grid0.Coords) : Scf.Loop 32 :=
  let c0_i32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v14 : BitVec 32 := Scalar.subi v4 c0_i32
  let c1_i32_5 : BitVec 32 := 1#32
  let v16 : BitVec 32 := Scalar.divsi v14 c1_i32_5
  let v17 : BitVec 32 := Scalar.muli v16 c1_i32_5
  let v18 : BitVec 32 := Scalar.addi c0_i32 v17
  let v15 : BitVec 32 := Scalar.addi c0_i32 v14
  let c1_i32_7 : BitVec 32 := 1#32
  ⟨v18, v15, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v14 : BitVec 32 := Scalar.subi v4 c0_i32
  let c1_i32_5 : BitVec 32 := 1#32
  let v16 : BitVec 32 := Scalar.divsi v14 c1_i32_5
  let v17 : BitVec 32 := Scalar.muli v16 c1_i32_5
  let v18 : BitVec 32 := Scalar.addi c0_i32 v17
  let c1_i32_7 : BitVec 32 := 1#32
  let arg13 : BitVec 32 := Scf.iv v18 c1_i32_7 k0_t2
  let c512_i32_109 : BitVec 32 := 512#32
  let v189 : BitVec 32 := Scalar.muli arg13 c512_i32_109
  v189
def k0_off3 (i : grid0.Coords) (k0_t2 : Fin (k0_t2_loop i).trips) : Fin 2 → Nat :=
  let c0_i32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v14 : BitVec 32 := Scalar.subi v4 c0_i32
  let c1_i32_5 : BitVec 32 := 1#32
  let v16 : BitVec 32 := Scalar.divsi v14 c1_i32_5
  let v17 : BitVec 32 := Scalar.muli v16 c1_i32_5
  let v18 : BitVec 32 := Scalar.addi c0_i32 v17
  let c1_i32_7 : BitVec 32 := 1#32
  let arg13 : BitVec 32 := Scf.iv v18 c1_i32_7 k0_t2
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off4 (i : grid0.Coords) (k0_t2 : Fin (k0_t2_loop i).trips) : Fin 3 → Nat :=
  let c0_i32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v14 : BitVec 32 := Scalar.subi v4 c0_i32
  let c1_i32_5 : BitVec 32 := 1#32
  let v16 : BitVec 32 := Scalar.divsi v14 c1_i32_5
  let v17 : BitVec 32 := Scalar.muli v16 c1_i32_5
  let v18 : BitVec 32 := Scalar.addi c0_i32 v17
  let c1_i32_7 : BitVec 32 := 1#32
  let arg13 : BitVec 32 := Scf.iv v18 c1_i32_7 k0_t2
  let v344 : Index := Scalar.indexCast arg13
  let c0_186 : Index := 0#32
  let c0_187 : Index := 0#32
  ![v344.toNat, 0, 0]
@[reducible] def k0_t3_loop (i : grid0.Coords) : Scf.Loop 32 :=
  let c0_i32_112 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v195 : BitVec 32 := Scalar.subi v4 c0_i32_112
  let c1_i32_113 : BitVec 32 := 1#32
  let v197 : BitVec 32 := Scalar.divsi v195 c1_i32_113
  let v198 : BitVec 32 := Scalar.muli v197 c1_i32_113
  let v199 : BitVec 32 := Scalar.addi c0_i32_112 v198
  let c1_i32_114 : BitVec 32 := 1#32
  ⟨c0_i32_112, v199, c1_i32_114⟩
def k0_off5 (i : grid0.Coords) (k0_t3 : Fin (k0_t3_loop i).trips) : Fin 3 → Nat :=
  let c0_i32_112 : BitVec 32 := 0#32
  let c1_i32_114 : BitVec 32 := 1#32
  let arg17 : BitVec 32 := Scf.iv c0_i32_112 c1_i32_114 k0_t3
  let v222 : Index := Scalar.indexCast arg17
  let c0_123 : Index := 0#32
  let c0_124 : Index := 0#32
  ![v222.toNat, 0, 0]
@[reducible] def k0_t4_loop (i : grid0.Coords) : Scf.Loop 32 :=
  let c0_i32_112 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v195 : BitVec 32 := Scalar.subi v4 c0_i32_112
  let c1_i32_113 : BitVec 32 := 1#32
  let v197 : BitVec 32 := Scalar.divsi v195 c1_i32_113
  let v198 : BitVec 32 := Scalar.muli v197 c1_i32_113
  let v199 : BitVec 32 := Scalar.addi c0_i32_112 v198
  let v196 : BitVec 32 := Scalar.addi c0_i32_112 v195
  let c1_i32_115 : BitVec 32 := 1#32
  ⟨v199, v196, c1_i32_115⟩
def k0_off6 (i : grid0.Coords) (k0_t4 : Fin (k0_t4_loop i).trips) : Fin 3 → Nat :=
  let c0_i32_112 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v195 : BitVec 32 := Scalar.subi v4 c0_i32_112
  let c1_i32_113 : BitVec 32 := 1#32
  let v197 : BitVec 32 := Scalar.divsi v195 c1_i32_113
  let v198 : BitVec 32 := Scalar.muli v197 c1_i32_113
  let v199 : BitVec 32 := Scalar.addi c0_i32_112 v198
  let c1_i32_115 : BitVec 32 := 1#32
  let arg17 : BitVec 32 := Scf.iv v199 c1_i32_115 k0_t4
  let v222 : Index := Scalar.indexCast arg17
  let c0_123 : Index := 0#32
  let c0_124 : Index := 0#32
  ![v222.toNat, 0, 0]
@[reducible] def k0_t5_loop (i : grid0.Coords) : Scf.Loop 32 :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_16 : BitVec 32 := 1#32
  ⟨c0_i32_14, v36, c1_i32_16⟩
def k0_off7 (i : grid0.Coords) (k0_t5 : Fin (k0_t5_loop i).trips) : Fin 3 → Nat :=
  let c0_i32_14 : BitVec 32 := 0#32
  let c1_i32_16 : BitVec 32 := 1#32
  let arg13 : BitVec 32 := Scf.iv c0_i32_14 c1_i32_16 k0_t5
  let v189 : Index := Scalar.indexCast arg13
  let c0_109 : Index := 0#32
  let c0_110 : Index := 0#32
  ![v189.toNat, 0, 0]
@[reducible] def k0_t6_loop (i : grid0.Coords) : Scf.Loop 32 :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let v33 : BitVec 32 := Scalar.addi c0_i32_14 v32
  let c1_i32_17 : BitVec 32 := 1#32
  ⟨v36, v33, c1_i32_17⟩
def k0_off8 (i : grid0.Coords) (k0_t6 : Fin (k0_t6_loop i).trips) : Fin 3 → Nat :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_17 : BitVec 32 := 1#32
  let arg13 : BitVec 32 := Scf.iv v36 c1_i32_17 k0_t6
  let v189 : Index := Scalar.indexCast arg13
  let c0_109 : Index := 0#32
  let c0_110 : Index := 0#32
  ![v189.toNat, 0, 0]
@[reducible] def k0_t7_loop (i : grid0.Coords) : Scf.Loop 32 :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v42 : BitVec 32 := Scalar.subi v4 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_26 : BitVec 32 := 1#32
  ⟨c0_i32_24, v46, c1_i32_26⟩
def k0_mult3 (i : grid0.Coords) (k0_t7 : Fin (k0_t7_loop i).trips) : BitVec 32 :=
  let c0_i32_24 : BitVec 32 := 0#32
  let c1_i32_26 : BitVec 32 := 1#32
  let arg13 : BitVec 32 := Scf.iv c0_i32_24 c1_i32_26 k0_t7
  let c512_i32_109 : BitVec 32 := 512#32
  let v189 : BitVec 32 := Scalar.muli arg13 c512_i32_109
  v189
def k0_off9 (i : grid0.Coords) (k0_t7 : Fin (k0_t7_loop i).trips) : Fin 2 → Nat :=
  let c0_i32_24 : BitVec 32 := 0#32
  let c1_i32_26 : BitVec 32 := 1#32
  let arg13 : BitVec 32 := Scf.iv c0_i32_24 c1_i32_26 k0_t7
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off10 (i : grid0.Coords) (k0_t7 : Fin (k0_t7_loop i).trips) : Fin 3 → Nat :=
  let c0_i32_24 : BitVec 32 := 0#32
  let c1_i32_26 : BitVec 32 := 1#32
  let arg13 : BitVec 32 := Scf.iv c0_i32_24 c1_i32_26 k0_t7
  let v198 : Index := Scalar.indexCast arg13
  let c0_114 : Index := 0#32
  let c0_115 : Index := 0#32
  ![v198.toNat, 0, 0]
@[reducible] def k0_t8_loop (i : grid0.Coords) : Scf.Loop 32 :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v42 : BitVec 32 := Scalar.subi v4 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let v43 : BitVec 32 := Scalar.addi c0_i32_24 v42
  let c1_i32_27 : BitVec 32 := 1#32
  ⟨v46, v43, c1_i32_27⟩
def k0_mult4 (i : grid0.Coords) (k0_t8 : Fin (k0_t8_loop i).trips) : BitVec 32 :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v42 : BitVec 32 := Scalar.subi v4 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg13 : BitVec 32 := Scf.iv v46 c1_i32_27 k0_t8
  let c512_i32_109 : BitVec 32 := 512#32
  let v189 : BitVec 32 := Scalar.muli arg13 c512_i32_109
  v189
def k0_off11 (i : grid0.Coords) (k0_t8 : Fin (k0_t8_loop i).trips) : Fin 2 → Nat :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v42 : BitVec 32 := Scalar.subi v4 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg13 : BitVec 32 := Scf.iv v46 c1_i32_27 k0_t8
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off12 (i : grid0.Coords) (k0_t8 : Fin (k0_t8_loop i).trips) : Fin 3 → Nat :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v42 : BitVec 32 := Scalar.subi v4 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg13 : BitVec 32 := Scf.iv v46 c1_i32_27 k0_t8
  let v198 : Index := Scalar.indexCast arg13
  let c0_114 : Index := 0#32
  let c0_115 : Index := 0#32
  ![v198.toNat, 0, 0]
@[reducible] def k0_t9_loop (i : grid0.Coords) : Scf.Loop 32 :=
  let c0_i32_35 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v59 : BitVec 32 := Scalar.subi v4 c0_i32_35
  let c1_i32_36 : BitVec 32 := 1#32
  let v61 : BitVec 32 := Scalar.divsi v59 c1_i32_36
  let v62 : BitVec 32 := Scalar.muli v61 c1_i32_36
  let v63 : BitVec 32 := Scalar.addi c0_i32_35 v62
  let c1_i32_37 : BitVec 32 := 1#32
  ⟨c0_i32_35, v63, c1_i32_37⟩
def k0_mult5 (i : grid0.Coords) (k0_t9 : Fin (k0_t9_loop i).trips) : BitVec 32 :=
  let c0_i32_35 : BitVec 32 := 0#32
  let c1_i32_37 : BitVec 32 := 1#32
  let arg13 : BitVec 32 := Scf.iv c0_i32_35 c1_i32_37 k0_t9
  let c512_i32_109 : BitVec 32 := 512#32
  let v189 : BitVec 32 := Scalar.muli arg13 c512_i32_109
  v189
def k0_off13 (i : grid0.Coords) (k0_t9 : Fin (k0_t9_loop i).trips) : Fin 2 → Nat :=
  let c0_i32_35 : BitVec 32 := 0#32
  let c1_i32_37 : BitVec 32 := 1#32
  let arg13 : BitVec 32 := Scf.iv c0_i32_35 c1_i32_37 k0_t9
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off14 (i : grid0.Coords) (k0_t9 : Fin (k0_t9_loop i).trips) : Fin 3 → Nat :=
  let c0_i32_35 : BitVec 32 := 0#32
  let c1_i32_37 : BitVec 32 := 1#32
  let arg13 : BitVec 32 := Scf.iv c0_i32_35 c1_i32_37 k0_t9
  let v198 : Index := Scalar.indexCast arg13
  let c0_114 : Index := 0#32
  let c0_115 : Index := 0#32
  ![v198.toNat, 0, 0]
@[reducible] def k0_t10_loop (i : grid0.Coords) : Scf.Loop 32 :=
  let c0_i32_35 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v59 : BitVec 32 := Scalar.subi v4 c0_i32_35
  let c1_i32_36 : BitVec 32 := 1#32
  let v61 : BitVec 32 := Scalar.divsi v59 c1_i32_36
  let v62 : BitVec 32 := Scalar.muli v61 c1_i32_36
  let v63 : BitVec 32 := Scalar.addi c0_i32_35 v62
  let v60 : BitVec 32 := Scalar.addi c0_i32_35 v59
  let c1_i32_38 : BitVec 32 := 1#32
  ⟨v63, v60, c1_i32_38⟩
def k0_mult6 (i : grid0.Coords) (k0_t10 : Fin (k0_t10_loop i).trips) : BitVec 32 :=
  let c0_i32_35 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v59 : BitVec 32 := Scalar.subi v4 c0_i32_35
  let c1_i32_36 : BitVec 32 := 1#32
  let v61 : BitVec 32 := Scalar.divsi v59 c1_i32_36
  let v62 : BitVec 32 := Scalar.muli v61 c1_i32_36
  let v63 : BitVec 32 := Scalar.addi c0_i32_35 v62
  let c1_i32_38 : BitVec 32 := 1#32
  let arg13 : BitVec 32 := Scf.iv v63 c1_i32_38 k0_t10
  let c512_i32_109 : BitVec 32 := 512#32
  let v189 : BitVec 32 := Scalar.muli arg13 c512_i32_109
  v189
def k0_off15 (i : grid0.Coords) (k0_t10 : Fin (k0_t10_loop i).trips) : Fin 2 → Nat :=
  let c0_i32_35 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v59 : BitVec 32 := Scalar.subi v4 c0_i32_35
  let c1_i32_36 : BitVec 32 := 1#32
  let v61 : BitVec 32 := Scalar.divsi v59 c1_i32_36
  let v62 : BitVec 32 := Scalar.muli v61 c1_i32_36
  let v63 : BitVec 32 := Scalar.addi c0_i32_35 v62
  let c1_i32_38 : BitVec 32 := 1#32
  let arg13 : BitVec 32 := Scf.iv v63 c1_i32_38 k0_t10
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off16 (i : grid0.Coords) (k0_t10 : Fin (k0_t10_loop i).trips) : Fin 3 → Nat :=
  let c0_i32_35 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v59 : BitVec 32 := Scalar.subi v4 c0_i32_35
  let c1_i32_36 : BitVec 32 := 1#32
  let v61 : BitVec 32 := Scalar.divsi v59 c1_i32_36
  let v62 : BitVec 32 := Scalar.muli v61 c1_i32_36
  let v63 : BitVec 32 := Scalar.addi c0_i32_35 v62
  let c1_i32_38 : BitVec 32 := 1#32
  let arg13 : BitVec 32 := Scf.iv v63 c1_i32_38 k0_t10
  let v198 : Index := Scalar.indexCast arg13
  let c0_114 : Index := 0#32
  let c0_115 : Index := 0#32
  ![v198.toNat, 0, 0]
@[reducible] def k0_t11_loop (i : grid0.Coords) : Scf.Loop 32 :=
  let c0_i32_45 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v76 : BitVec 32 := Scalar.subi v4 c0_i32_45
  let c1_i32_46 : BitVec 32 := 1#32
  let v78 : BitVec 32 := Scalar.divsi v76 c1_i32_46
  let v79 : BitVec 32 := Scalar.muli v78 c1_i32_46
  let v80 : BitVec 32 := Scalar.addi c0_i32_45 v79
  let c1_i32_47 : BitVec 32 := 1#32
  ⟨c0_i32_45, v80, c1_i32_47⟩
def k0_mult7 (i : grid0.Coords) (k0_t11 : Fin (k0_t11_loop i).trips) : BitVec 32 :=
  let c0_i32_45 : BitVec 32 := 0#32
  let c1_i32_47 : BitVec 32 := 1#32
  let arg13 : BitVec 32 := Scf.iv c0_i32_45 c1_i32_47 k0_t11
  let c512_i32_109 : BitVec 32 := 512#32
  let v189 : BitVec 32 := Scalar.muli arg13 c512_i32_109
  v189
def k0_off17 (i : grid0.Coords) (k0_t11 : Fin (k0_t11_loop i).trips) : Fin 2 → Nat :=
  let c0_i32_45 : BitVec 32 := 0#32
  let c1_i32_47 : BitVec 32 := 1#32
  let arg13 : BitVec 32 := Scf.iv c0_i32_45 c1_i32_47 k0_t11
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off18 (i : grid0.Coords) (k0_t11 : Fin (k0_t11_loop i).trips) : Fin 3 → Nat :=
  let c0_i32_45 : BitVec 32 := 0#32
  let c1_i32_47 : BitVec 32 := 1#32
  let arg13 : BitVec 32 := Scf.iv c0_i32_45 c1_i32_47 k0_t11
  let v198 : Index := Scalar.indexCast arg13
  let c0_114 : Index := 0#32
  let c0_115 : Index := 0#32
  ![v198.toNat, 0, 0]
@[reducible] def k0_t12_loop (i : grid0.Coords) : Scf.Loop 32 :=
  let c0_i32_45 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v76 : BitVec 32 := Scalar.subi v4 c0_i32_45
  let c1_i32_46 : BitVec 32 := 1#32
  let v78 : BitVec 32 := Scalar.divsi v76 c1_i32_46
  let v79 : BitVec 32 := Scalar.muli v78 c1_i32_46
  let v80 : BitVec 32 := Scalar.addi c0_i32_45 v79
  let v77 : BitVec 32 := Scalar.addi c0_i32_45 v76
  let c1_i32_48 : BitVec 32 := 1#32
  ⟨v80, v77, c1_i32_48⟩
def k0_mult8 (i : grid0.Coords) (k0_t12 : Fin (k0_t12_loop i).trips) : BitVec 32 :=
  let c0_i32_45 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v76 : BitVec 32 := Scalar.subi v4 c0_i32_45
  let c1_i32_46 : BitVec 32 := 1#32
  let v78 : BitVec 32 := Scalar.divsi v76 c1_i32_46
  let v79 : BitVec 32 := Scalar.muli v78 c1_i32_46
  let v80 : BitVec 32 := Scalar.addi c0_i32_45 v79
  let c1_i32_48 : BitVec 32 := 1#32
  let arg13 : BitVec 32 := Scf.iv v80 c1_i32_48 k0_t12
  let c512_i32_109 : BitVec 32 := 512#32
  let v189 : BitVec 32 := Scalar.muli arg13 c512_i32_109
  v189
def k0_off19 (i : grid0.Coords) (k0_t12 : Fin (k0_t12_loop i).trips) : Fin 2 → Nat :=
  let c0_i32_45 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v76 : BitVec 32 := Scalar.subi v4 c0_i32_45
  let c1_i32_46 : BitVec 32 := 1#32
  let v78 : BitVec 32 := Scalar.divsi v76 c1_i32_46
  let v79 : BitVec 32 := Scalar.muli v78 c1_i32_46
  let v80 : BitVec 32 := Scalar.addi c0_i32_45 v79
  let c1_i32_48 : BitVec 32 := 1#32
  let arg13 : BitVec 32 := Scf.iv v80 c1_i32_48 k0_t12
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off20 (i : grid0.Coords) (k0_t12 : Fin (k0_t12_loop i).trips) : Fin 3 → Nat :=
  let c0_i32_45 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v76 : BitVec 32 := Scalar.subi v4 c0_i32_45
  let c1_i32_46 : BitVec 32 := 1#32
  let v78 : BitVec 32 := Scalar.divsi v76 c1_i32_46
  let v79 : BitVec 32 := Scalar.muli v78 c1_i32_46
  let v80 : BitVec 32 := Scalar.addi c0_i32_45 v79
  let c1_i32_48 : BitVec 32 := 1#32
  let arg13 : BitVec 32 := Scf.iv v80 c1_i32_48 k0_t12
  let v198 : Index := Scalar.indexCast arg13
  let c0_114 : Index := 0#32
  let c0_115 : Index := 0#32
  ![v198.toNat, 0, 0]
@[reducible] def k0_t13_loop (i : grid0.Coords) : Scf.Loop 32 :=
  let c0_i32_55 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v93 : BitVec 32 := Scalar.subi v4 c0_i32_55
  let c1_i32_56 : BitVec 32 := 1#32
  let v95 : BitVec 32 := Scalar.divsi v93 c1_i32_56
  let v96 : BitVec 32 := Scalar.muli v95 c1_i32_56
  let v97 : BitVec 32 := Scalar.addi c0_i32_55 v96
  let c1_i32_57 : BitVec 32 := 1#32
  ⟨c0_i32_55, v97, c1_i32_57⟩
def k0_mult9 (i : grid0.Coords) (k0_t13 : Fin (k0_t13_loop i).trips) : BitVec 32 :=
  let c0_i32_55 : BitVec 32 := 0#32
  let c1_i32_57 : BitVec 32 := 1#32
  let arg13 : BitVec 32 := Scf.iv c0_i32_55 c1_i32_57 k0_t13
  let c512_i32_109 : BitVec 32 := 512#32
  let v189 : BitVec 32 := Scalar.muli arg13 c512_i32_109
  v189
def k0_off21 (i : grid0.Coords) (k0_t13 : Fin (k0_t13_loop i).trips) : Fin 2 → Nat :=
  let c0_i32_55 : BitVec 32 := 0#32
  let c1_i32_57 : BitVec 32 := 1#32
  let arg13 : BitVec 32 := Scf.iv c0_i32_55 c1_i32_57 k0_t13
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off22 (i : grid0.Coords) (k0_t13 : Fin (k0_t13_loop i).trips) : Fin 3 → Nat :=
  let c0_i32_55 : BitVec 32 := 0#32
  let c1_i32_57 : BitVec 32 := 1#32
  let arg13 : BitVec 32 := Scf.iv c0_i32_55 c1_i32_57 k0_t13
  let v198 : Index := Scalar.indexCast arg13
  let c0_114 : Index := 0#32
  let c0_115 : Index := 0#32
  ![v198.toNat, 0, 0]
@[reducible] def k0_t14_loop (i : grid0.Coords) : Scf.Loop 32 :=
  let c0_i32_55 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v93 : BitVec 32 := Scalar.subi v4 c0_i32_55
  let c1_i32_56 : BitVec 32 := 1#32
  let v95 : BitVec 32 := Scalar.divsi v93 c1_i32_56
  let v96 : BitVec 32 := Scalar.muli v95 c1_i32_56
  let v97 : BitVec 32 := Scalar.addi c0_i32_55 v96
  let v94 : BitVec 32 := Scalar.addi c0_i32_55 v93
  let c1_i32_58 : BitVec 32 := 1#32
  ⟨v97, v94, c1_i32_58⟩
def k0_mult10 (i : grid0.Coords) (k0_t14 : Fin (k0_t14_loop i).trips) : BitVec 32 :=
  let c0_i32_55 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v93 : BitVec 32 := Scalar.subi v4 c0_i32_55
  let c1_i32_56 : BitVec 32 := 1#32
  let v95 : BitVec 32 := Scalar.divsi v93 c1_i32_56
  let v96 : BitVec 32 := Scalar.muli v95 c1_i32_56
  let v97 : BitVec 32 := Scalar.addi c0_i32_55 v96
  let c1_i32_58 : BitVec 32 := 1#32
  let arg13 : BitVec 32 := Scf.iv v97 c1_i32_58 k0_t14
  let c512_i32_109 : BitVec 32 := 512#32
  let v189 : BitVec 32 := Scalar.muli arg13 c512_i32_109
  v189
def k0_off23 (i : grid0.Coords) (k0_t14 : Fin (k0_t14_loop i).trips) : Fin 2 → Nat :=
  let c0_i32_55 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v93 : BitVec 32 := Scalar.subi v4 c0_i32_55
  let c1_i32_56 : BitVec 32 := 1#32
  let v95 : BitVec 32 := Scalar.divsi v93 c1_i32_56
  let v96 : BitVec 32 := Scalar.muli v95 c1_i32_56
  let v97 : BitVec 32 := Scalar.addi c0_i32_55 v96
  let c1_i32_58 : BitVec 32 := 1#32
  let arg13 : BitVec 32 := Scf.iv v97 c1_i32_58 k0_t14
  let c512_i32_109 : BitVec 32 := 512#32
  let v189 : BitVec 32 := Scalar.muli arg13 c512_i32_109
  let v190 : BitVec 32 := v189
  let v191 : Index := Scalar.indexCast v190
  let c0_110 : Index := 0#32
  ![v191.toNat, 0]
def k0_off24 (i : grid0.Coords) (k0_t14 : Fin (k0_t14_loop i).trips) : Fin 3 → Nat :=
  let c0_i32_55 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v93 : BitVec 32 := Scalar.subi v4 c0_i32_55
  let c1_i32_56 : BitVec 32 := 1#32
  let v95 : BitVec 32 := Scalar.divsi v93 c1_i32_56
  let v96 : BitVec 32 := Scalar.muli v95 c1_i32_56
  let v97 : BitVec 32 := Scalar.addi c0_i32_55 v96
  let c1_i32_58 : BitVec 32 := 1#32
  let arg13 : BitVec 32 := Scf.iv v97 c1_i32_58 k0_t14
  let v198 : Index := Scalar.indexCast arg13
  let c0_114 : Index := 0#32
  let c0_115 : Index := 0#32
  ![v198.toNat, 0, 0]
@[reducible] def k0_t15_loop (i : grid0.Coords) : Scf.Loop 32 :=
  let c0_i32_65 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v110 : BitVec 32 := Scalar.subi v4 c0_i32_65
  let c1_i32_66 : BitVec 32 := 1#32
  let v112 : BitVec 32 := Scalar.divsi v110 c1_i32_66
  let v113 : BitVec 32 := Scalar.muli v112 c1_i32_66
  let v114 : BitVec 32 := Scalar.addi c0_i32_65 v113
  let c1_i32_67 : BitVec 32 := 1#32
  ⟨c0_i32_65, v114, c1_i32_67⟩
def k0_mult11 (i : grid0.Coords) (k0_t15 : Fin (k0_t15_loop i).trips) : BitVec 32 :=
  let c0_i32_65 : BitVec 32 := 0#32
  let c1_i32_67 : BitVec 32 := 1#32
  let arg13 : BitVec 32 := Scf.iv c0_i32_65 c1_i32_67 k0_t15
  let c512_i32_109 : BitVec 32 := 512#32
  let v189 : BitVec 32 := Scalar.muli arg13 c512_i32_109
  v189
def k0_off25 (i : grid0.Coords) (k0_t15 : Fin (k0_t15_loop i).trips) : Fin 2 → Nat :=
  let c0_i32_65 : BitVec 32 := 0#32
  let c1_i32_67 : BitVec 32 := 1#32
  let arg13 : BitVec 32 := Scf.iv c0_i32_65 c1_i32_67 k0_t15
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off26 (i : grid0.Coords) (k0_t15 : Fin (k0_t15_loop i).trips) : Fin 3 → Nat :=
  let c0_i32_65 : BitVec 32 := 0#32
  let c1_i32_67 : BitVec 32 := 1#32
  let arg13 : BitVec 32 := Scf.iv c0_i32_65 c1_i32_67 k0_t15
  let v198 : Index := Scalar.indexCast arg13
  let c0_114 : Index := 0#32
  let c0_115 : Index := 0#32
  ![v198.toNat, 0, 0]
@[reducible] def k0_t16_loop (i : grid0.Coords) : Scf.Loop 32 :=
  let c0_i32_65 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v110 : BitVec 32 := Scalar.subi v4 c0_i32_65
  let c1_i32_66 : BitVec 32 := 1#32
  let v112 : BitVec 32 := Scalar.divsi v110 c1_i32_66
  let v113 : BitVec 32 := Scalar.muli v112 c1_i32_66
  let v114 : BitVec 32 := Scalar.addi c0_i32_65 v113
  let v111 : BitVec 32 := Scalar.addi c0_i32_65 v110
  let c1_i32_68 : BitVec 32 := 1#32
  ⟨v114, v111, c1_i32_68⟩
def k0_mult12 (i : grid0.Coords) (k0_t16 : Fin (k0_t16_loop i).trips) : BitVec 32 :=
  let c0_i32_65 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v110 : BitVec 32 := Scalar.subi v4 c0_i32_65
  let c1_i32_66 : BitVec 32 := 1#32
  let v112 : BitVec 32 := Scalar.divsi v110 c1_i32_66
  let v113 : BitVec 32 := Scalar.muli v112 c1_i32_66
  let v114 : BitVec 32 := Scalar.addi c0_i32_65 v113
  let c1_i32_68 : BitVec 32 := 1#32
  let arg13 : BitVec 32 := Scf.iv v114 c1_i32_68 k0_t16
  let c512_i32_109 : BitVec 32 := 512#32
  let v189 : BitVec 32 := Scalar.muli arg13 c512_i32_109
  v189
def k0_off27 (i : grid0.Coords) (k0_t16 : Fin (k0_t16_loop i).trips) : Fin 2 → Nat :=
  let c0_i32_65 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v110 : BitVec 32 := Scalar.subi v4 c0_i32_65
  let c1_i32_66 : BitVec 32 := 1#32
  let v112 : BitVec 32 := Scalar.divsi v110 c1_i32_66
  let v113 : BitVec 32 := Scalar.muli v112 c1_i32_66
  let v114 : BitVec 32 := Scalar.addi c0_i32_65 v113
  let c1_i32_68 : BitVec 32 := 1#32
  let arg13 : BitVec 32 := Scf.iv v114 c1_i32_68 k0_t16
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off28 (i : grid0.Coords) (k0_t16 : Fin (k0_t16_loop i).trips) : Fin 3 → Nat :=
  let c0_i32_65 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v110 : BitVec 32 := Scalar.subi v4 c0_i32_65
  let c1_i32_66 : BitVec 32 := 1#32
  let v112 : BitVec 32 := Scalar.divsi v110 c1_i32_66
  let v113 : BitVec 32 := Scalar.muli v112 c1_i32_66
  let v114 : BitVec 32 := Scalar.addi c0_i32_65 v113
  let c1_i32_68 : BitVec 32 := 1#32
  let arg13 : BitVec 32 := Scf.iv v114 c1_i32_68 k0_t16
  let v198 : Index := Scalar.indexCast arg13
  let c0_114 : Index := 0#32
  let c0_115 : Index := 0#32
  ![v198.toNat, 0, 0]
@[reducible] def k0_t17_loop (i : grid0.Coords) : Scf.Loop 32 :=
  let c0_i32_75 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v127 : BitVec 32 := Scalar.subi v4 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_77 : BitVec 32 := 1#32
  ⟨c0_i32_75, v131, c1_i32_77⟩
def k0_mult13 (i : grid0.Coords) (k0_t17 : Fin (k0_t17_loop i).trips) : BitVec 32 :=
  let c0_i32_75 : BitVec 32 := 0#32
  let c1_i32_77 : BitVec 32 := 1#32
  let arg13 : BitVec 32 := Scf.iv c0_i32_75 c1_i32_77 k0_t17
  let c512_i32_109 : BitVec 32 := 512#32
  let v189 : BitVec 32 := Scalar.muli arg13 c512_i32_109
  v189
def k0_off29 (i : grid0.Coords) (k0_t17 : Fin (k0_t17_loop i).trips) : Fin 2 → Nat :=
  let c0_i32_75 : BitVec 32 := 0#32
  let c1_i32_77 : BitVec 32 := 1#32
  let arg13 : BitVec 32 := Scf.iv c0_i32_75 c1_i32_77 k0_t17
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off30 (i : grid0.Coords) (k0_t17 : Fin (k0_t17_loop i).trips) : Fin 3 → Nat :=
  let c0_i32_75 : BitVec 32 := 0#32
  let c1_i32_77 : BitVec 32 := 1#32
  let arg13 : BitVec 32 := Scf.iv c0_i32_75 c1_i32_77 k0_t17
  let v198 : Index := Scalar.indexCast arg13
  let c0_114 : Index := 0#32
  let c0_115 : Index := 0#32
  ![v198.toNat, 0, 0]
@[reducible] def k0_t18_loop (i : grid0.Coords) : Scf.Loop 32 :=
  let c0_i32_75 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v127 : BitVec 32 := Scalar.subi v4 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let v128 : BitVec 32 := Scalar.addi c0_i32_75 v127
  let c1_i32_78 : BitVec 32 := 1#32
  ⟨v131, v128, c1_i32_78⟩
def k0_mult14 (i : grid0.Coords) (k0_t18 : Fin (k0_t18_loop i).trips) : BitVec 32 :=
  let c0_i32_75 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v127 : BitVec 32 := Scalar.subi v4 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t18
  let c512_i32_109 : BitVec 32 := 512#32
  let v189 : BitVec 32 := Scalar.muli arg13 c512_i32_109
  v189
def k0_off31 (i : grid0.Coords) (k0_t18 : Fin (k0_t18_loop i).trips) : Fin 2 → Nat :=
  let c0_i32_75 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v127 : BitVec 32 := Scalar.subi v4 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t18
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off32 (i : grid0.Coords) (k0_t18 : Fin (k0_t18_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v127 : BitVec 32 := Scalar.subi v4 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t18
  let v198 : Index := Scalar.indexCast arg13
  let c0_114 : Index := 0#32
  let c0_115 : Index := 0#32
  ![v198.toNat, 0, 0]
@[reducible] def k0_t19_loop (i : grid0.Coords) : Scf.Loop 32 :=
  let c0_i32_85 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v144 : BitVec 32 := Scalar.subi v4 c0_i32_85
  let c1_i32_86 : BitVec 32 := 1#32
  let v146 : BitVec 32 := Scalar.divsi v144 c1_i32_86
  let v147 : BitVec 32 := Scalar.muli v146 c1_i32_86
  let v148 : BitVec 32 := Scalar.addi c0_i32_85 v147
  let c1_i32_87 : BitVec 32 := 1#32
  ⟨c0_i32_85, v148, c1_i32_87⟩
def k0_mult15 (i : grid0.Coords) (k0_t19 : Fin (k0_t19_loop i).trips) : BitVec 32 :=
  let c0_i32_85 : BitVec 32 := 0#32
  let c1_i32_87 : BitVec 32 := 1#32
  let arg13 : BitVec 32 := Scf.iv c0_i32_85 c1_i32_87 k0_t19
  let c512_i32_109 : BitVec 32 := 512#32
  let v189 : BitVec 32 := Scalar.muli arg13 c512_i32_109
  v189
def k0_off33 (i : grid0.Coords) (k0_t19 : Fin (k0_t19_loop i).trips) : Fin 2 → Nat :=
  let c0_i32_85 : BitVec 32 := 0#32
  let c1_i32_87 : BitVec 32 := 1#32
  let arg13 : BitVec 32 := Scf.iv c0_i32_85 c1_i32_87 k0_t19
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off34 (i : grid0.Coords) (k0_t19 : Fin (k0_t19_loop i).trips) : Fin 3 → Nat :=
  let c0_i32_85 : BitVec 32 := 0#32
  let c1_i32_87 : BitVec 32 := 1#32
  let arg13 : BitVec 32 := Scf.iv c0_i32_85 c1_i32_87 k0_t19
  let v198 : Index := Scalar.indexCast arg13
  let c0_114 : Index := 0#32
  let c0_115 : Index := 0#32
  ![v198.toNat, 0, 0]
@[reducible] def k0_t20_loop (i : grid0.Coords) : Scf.Loop 32 :=
  let c0_i32_85 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v144 : BitVec 32 := Scalar.subi v4 c0_i32_85
  let c1_i32_86 : BitVec 32 := 1#32
  let v146 : BitVec 32 := Scalar.divsi v144 c1_i32_86
  let v147 : BitVec 32 := Scalar.muli v146 c1_i32_86
  let v148 : BitVec 32 := Scalar.addi c0_i32_85 v147
  let v145 : BitVec 32 := Scalar.addi c0_i32_85 v144
  let c1_i32_88 : BitVec 32 := 1#32
  ⟨v148, v145, c1_i32_88⟩
def k0_mult16 (i : grid0.Coords) (k0_t20 : Fin (k0_t20_loop i).trips) : BitVec 32 :=
  let c0_i32_85 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v144 : BitVec 32 := Scalar.subi v4 c0_i32_85
  let c1_i32_86 : BitVec 32 := 1#32
  let v146 : BitVec 32 := Scalar.divsi v144 c1_i32_86
  let v147 : BitVec 32 := Scalar.muli v146 c1_i32_86
  let v148 : BitVec 32 := Scalar.addi c0_i32_85 v147
  let c1_i32_88 : BitVec 32 := 1#32
  let arg13 : BitVec 32 := Scf.iv v148 c1_i32_88 k0_t20
  let c512_i32_109 : BitVec 32 := 512#32
  let v189 : BitVec 32 := Scalar.muli arg13 c512_i32_109
  v189
def k0_off35 (i : grid0.Coords) (k0_t20 : Fin (k0_t20_loop i).trips) : Fin 2 → Nat :=
  let c0_i32_85 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v144 : BitVec 32 := Scalar.subi v4 c0_i32_85
  let c1_i32_86 : BitVec 32 := 1#32
  let v146 : BitVec 32 := Scalar.divsi v144 c1_i32_86
  let v147 : BitVec 32 := Scalar.muli v146 c1_i32_86
  let v148 : BitVec 32 := Scalar.addi c0_i32_85 v147
  let c1_i32_88 : BitVec 32 := 1#32
  let arg13 : BitVec 32 := Scf.iv v148 c1_i32_88 k0_t20
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off36 (i : grid0.Coords) (k0_t20 : Fin (k0_t20_loop i).trips) : Fin 3 → Nat :=
  let c0_i32_85 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v144 : BitVec 32 := Scalar.subi v4 c0_i32_85
  let c1_i32_86 : BitVec 32 := 1#32
  let v146 : BitVec 32 := Scalar.divsi v144 c1_i32_86
  let v147 : BitVec 32 := Scalar.muli v146 c1_i32_86
  let v148 : BitVec 32 := Scalar.addi c0_i32_85 v147
  let c1_i32_88 : BitVec 32 := 1#32
  let arg13 : BitVec 32 := Scf.iv v148 c1_i32_88 k0_t20
  let v198 : Index := Scalar.indexCast arg13
  let c0_114 : Index := 0#32
  let c0_115 : Index := 0#32
  ![v198.toNat, 0, 0]
@[reducible] def k0_t21_loop (i : grid0.Coords) : Scf.Loop 32 :=
  let c0_i32_95 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v161 : BitVec 32 := Scalar.subi v4 c0_i32_95
  let c1_i32_96 : BitVec 32 := 1#32
  let v163 : BitVec 32 := Scalar.divsi v161 c1_i32_96
  let v164 : BitVec 32 := Scalar.muli v163 c1_i32_96
  let v165 : BitVec 32 := Scalar.addi c0_i32_95 v164
  let c1_i32_97 : BitVec 32 := 1#32
  ⟨c0_i32_95, v165, c1_i32_97⟩
def k0_mult17 (i : grid0.Coords) (k0_t21 : Fin (k0_t21_loop i).trips) : BitVec 32 :=
  let c0_i32_95 : BitVec 32 := 0#32
  let c1_i32_97 : BitVec 32 := 1#32
  let arg13 : BitVec 32 := Scf.iv c0_i32_95 c1_i32_97 k0_t21
  let c512_i32_109 : BitVec 32 := 512#32
  let v189 : BitVec 32 := Scalar.muli arg13 c512_i32_109
  v189
def k0_off37 (i : grid0.Coords) (k0_t21 : Fin (k0_t21_loop i).trips) : Fin 2 → Nat :=
  let c0_i32_95 : BitVec 32 := 0#32
  let c1_i32_97 : BitVec 32 := 1#32
  let arg13 : BitVec 32 := Scf.iv c0_i32_95 c1_i32_97 k0_t21
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off38 (i : grid0.Coords) (k0_t21 : Fin (k0_t21_loop i).trips) : Fin 3 → Nat :=
  let c0_i32_95 : BitVec 32 := 0#32
  let c1_i32_97 : BitVec 32 := 1#32
  let arg13 : BitVec 32 := Scf.iv c0_i32_95 c1_i32_97 k0_t21
  let v198 : Index := Scalar.indexCast arg13
  let c0_114 : Index := 0#32
  let c0_115 : Index := 0#32
  ![v198.toNat, 0, 0]
@[reducible] def k0_t22_loop (i : grid0.Coords) : Scf.Loop 32 :=
  let c0_i32_95 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v161 : BitVec 32 := Scalar.subi v4 c0_i32_95
  let c1_i32_96 : BitVec 32 := 1#32
  let v163 : BitVec 32 := Scalar.divsi v161 c1_i32_96
  let v164 : BitVec 32 := Scalar.muli v163 c1_i32_96
  let v165 : BitVec 32 := Scalar.addi c0_i32_95 v164
  let v162 : BitVec 32 := Scalar.addi c0_i32_95 v161
  let c1_i32_98 : BitVec 32 := 1#32
  ⟨v165, v162, c1_i32_98⟩
def k0_mult18 (i : grid0.Coords) (k0_t22 : Fin (k0_t22_loop i).trips) : BitVec 32 :=
  let c0_i32_95 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v161 : BitVec 32 := Scalar.subi v4 c0_i32_95
  let c1_i32_96 : BitVec 32 := 1#32
  let v163 : BitVec 32 := Scalar.divsi v161 c1_i32_96
  let v164 : BitVec 32 := Scalar.muli v163 c1_i32_96
  let v165 : BitVec 32 := Scalar.addi c0_i32_95 v164
  let c1_i32_98 : BitVec 32 := 1#32
  let arg13 : BitVec 32 := Scf.iv v165 c1_i32_98 k0_t22
  let c512_i32_109 : BitVec 32 := 512#32
  let v189 : BitVec 32 := Scalar.muli arg13 c512_i32_109
  v189
def k0_off39 (i : grid0.Coords) (k0_t22 : Fin (k0_t22_loop i).trips) : Fin 2 → Nat :=
  let c0_i32_95 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v161 : BitVec 32 := Scalar.subi v4 c0_i32_95
  let c1_i32_96 : BitVec 32 := 1#32
  let v163 : BitVec 32 := Scalar.divsi v161 c1_i32_96
  let v164 : BitVec 32 := Scalar.muli v163 c1_i32_96
  let v165 : BitVec 32 := Scalar.addi c0_i32_95 v164
  let c1_i32_98 : BitVec 32 := 1#32
  let arg13 : BitVec 32 := Scf.iv v165 c1_i32_98 k0_t22
  let c512_i32_109 : BitVec 32 := 512#32
  let v189 : BitVec 32 := Scalar.muli arg13 c512_i32_109
  let v190 : BitVec 32 := v189
  let v191 : Index := Scalar.indexCast v190
  let c128_110 : Index := 128#32
  ![v191.toNat, 128]
def k0_off40 (i : grid0.Coords) (k0_t22 : Fin (k0_t22_loop i).trips) : Fin 3 → Nat :=
  let c0_i32_95 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v161 : BitVec 32 := Scalar.subi v4 c0_i32_95
  let c1_i32_96 : BitVec 32 := 1#32
  let v163 : BitVec 32 := Scalar.divsi v161 c1_i32_96
  let v164 : BitVec 32 := Scalar.muli v163 c1_i32_96
  let v165 : BitVec 32 := Scalar.addi c0_i32_95 v164
  let c1_i32_98 : BitVec 32 := 1#32
  let arg13 : BitVec 32 := Scf.iv v165 c1_i32_98 k0_t22
  let v198 : Index := Scalar.indexCast arg13
  let c0_114 : Index := 0#32
  let c0_115 : Index := 0#32
  ![v198.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DsaRefIdeal.lean ====
abbrev S8x8192x128 : Shape := ⟨3, ![8, 8192, 128]⟩
abbrev S16x8192x128 : Shape := ⟨3, ![16, 8192, 128]⟩
abbrev S8192x16 : Shape := ⟨2, ![8192, 16]⟩
abbrev S8192x256 : Shape := ⟨2, ![8192, 256]⟩
abbrev S8192x128 : Shape := ⟨2, ![8192, 128]⟩
abbrev S1x1024 : Shape := ⟨2, ![1, 1024]⟩
abbrev S8192x8x128 : Shape := ⟨3, ![8192, 8, 128]⟩
abbrev S4x2048x2x4x128 : Shape := ⟨5, ![4, 2048, 2, 4, 128]⟩
abbrev S8192x16x128 : Shape := ⟨3, ![8192, 16, 128]⟩
abbrev S4x2048x16x128 : Shape := ⟨4, ![4, 2048, 16, 128]⟩
abbrev S4x2048x16 : Shape := ⟨3, ![4, 2048, 16]⟩
abbrev S4x2048x2x128 : Shape := ⟨4, ![4, 2048, 2, 128]⟩
abbrev S4x2048x128 : Shape := ⟨3, ![4, 2048, 128]⟩
abbrev S2048 : Shape := ⟨1, ![2048]⟩
abbrev S4x2048x16x2048 : Shape := ⟨4, ![4, 2048, 16, 2048]⟩
abbrev S_ : Shape := ⟨0, ![]⟩
abbrev S4x2048x2048 : Shape := ⟨3, ![4, 2048, 2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S4x2048x256 : Shape := ⟨3, ![4, 2048, 256]⟩
abbrev S4x2048x256x1 : Shape := ⟨4, ![4, 2048, 256, 1]⟩
abbrev S4x2048x256x2x128 : Shape := ⟨5, ![4, 2048, 256, 2, 128]⟩
abbrev S4x2048x2x4x256 : Shape := ⟨5, ![4, 2048, 2, 4, 256]⟩
abbrev S1x2048x1 : Shape := ⟨3, ![1, 2048, 1]⟩
abbrev S4x2048x1x1x256 : Shape := ⟨5, ![4, 2048, 1, 1, 256]⟩
abbrev S4x2048x2x4 : Shape := ⟨4, ![4, 2048, 2, 4]⟩
abbrev S4x2048x2x4x1 : Shape := ⟨5, ![4, 2048, 2, 4, 1]⟩
abbrev S8192x1024 : Shape := ⟨2, ![8192, 1024]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S16x8192x128, .bf16⟩
  | .hbm, ⟨2, _⟩ => ⟨S8192x16, .f32⟩
  | .hbm, ⟨3, _⟩ => ⟨S8192x256, .bf16⟩
  | .hbm, ⟨4, _⟩ => ⟨S8192x256, .bf16⟩
  | .hbm, ⟨5, _⟩ => ⟨S8192x128, .bf16⟩
  | .hbm, ⟨6, _⟩ => ⟨S1x1024, .f32⟩
  | .hbm, ⟨7, _⟩ => ⟨S8x8192x128, .f32⟩
  | .hbm, ⟨8, _⟩ => ⟨S8192x8x128, .f32⟩
  | .hbm, ⟨9, _⟩ => ⟨S4x2048x2x4x128, .f32⟩
  | .hbm, ⟨10, _⟩ => ⟨S16x8192x128, .f32⟩
  | .hbm, ⟨11, _⟩ => ⟨S8192x16x128, .f32⟩
  | .hbm, ⟨12, _⟩ => ⟨S4x2048x16x128, .f32⟩
  | .hbm, ⟨13, _⟩ => ⟨S4x2048x16, .f32⟩
  | .hbm, ⟨14, _⟩ => ⟨S8192x256, .f32⟩
  | .hbm, ⟨15, _⟩ => ⟨S4x2048x2x128, .f32⟩
  | .hbm, ⟨16, _⟩ => ⟨S8192x256, .f32⟩
  | .hbm, ⟨17, _⟩ => ⟨S4x2048x2x128, .f32⟩
  | .hbm, ⟨18, _⟩ => ⟨S8192x128, .f32⟩
  | .hbm, ⟨19, _⟩ => ⟨S4x2048x128, .f32⟩
  | .hbm, ⟨20, _⟩ => ⟨S2048, .i32⟩
  | .hbm, ⟨21, _⟩ => ⟨S4x2048x16x2048, .f32⟩
  | .hbm, ⟨22, _⟩ => ⟨S_, .f32⟩
  | .hbm, ⟨23, _⟩ => ⟨S4x2048x16x2048, .f32⟩
  | .hbm, ⟨24, _⟩ => ⟨S4x2048x16x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S4x2048x256, .f32⟩
  | .hbm, ⟨41, _⟩ => ⟨S4x2048x256, .i32⟩
  | .hbm, ⟨42, _⟩ => ⟨S_, .i32⟩
  | .hbm, ⟨43, _⟩ => ⟨S4x2048x256, .i32⟩
  | .hbm, ⟨44, _⟩ => ⟨S4x2048x256, .i1⟩
  | .hbm, ⟨45, _⟩ => ⟨S_, .i32⟩
  | .hbm, ⟨46, _⟩ => ⟨S4x2048x256, .i32⟩
  | .hbm, ⟨47, _⟩ => ⟨S4x2048x256, .i32⟩
  | .hbm, ⟨48, _⟩ => ⟨S4x2048x256, .i32⟩
  | .hbm, ⟨49, _⟩ => ⟨S4x2048x256x1, .i32⟩
  | .hbm, ⟨50, _⟩ => ⟨S4x2048x256x2x128, .f32⟩
  | .hbm, ⟨51, _⟩ => ⟨S_, .i32⟩
  | .hbm, ⟨52, _⟩ => ⟨S4x2048x256, .i32⟩
  | .hbm, ⟨53, _⟩ => ⟨S4x2048x256, .i1⟩
  | .hbm, ⟨54, _⟩ => ⟨S_, .i32⟩
  | .hbm, ⟨55, _⟩ => ⟨S4x2048x256, .i32⟩
  | .hbm, ⟨56, _⟩ => ⟨S4x2048x256, .i32⟩
  | .hbm, ⟨57, _⟩ => ⟨S4x2048x256, .i32⟩
  | .hbm, ⟨58, _⟩ => ⟨S4x2048x256x1, .i32⟩
  | .hbm, ⟨59, _⟩ => ⟨S4x2048x256x2x128, .f32⟩
  | .hbm, ⟨60, _⟩ => ⟨S4x2048x2x4x256, .f32⟩
  | .hbm, ⟨61, _⟩ => ⟨S_, .f32⟩
  | .hbm, ⟨62, _⟩ => ⟨S4x2048x2x4x256, .f32⟩
  | .hbm, ⟨63, _⟩ => ⟨S4x2048x2x4x256, .f32⟩
  | .hbm, ⟨64, _⟩ => ⟨S1x2048x1, .i32⟩
  | .hbm, ⟨65, _⟩ => ⟨S4x2048x256, .i32⟩
  | .hbm, ⟨66, _⟩ => ⟨S4x2048x256, .i1⟩
  | .hbm, ⟨67, _⟩ => ⟨S4x2048x1x1x256, .i1⟩
  | .hbm, ⟨68, _⟩ => ⟨S_, .f32⟩
  | .hbm, ⟨69, _⟩ => ⟨S_, .f32⟩
  | .hbm, ⟨70, _⟩ => ⟨S4x2048x2x4x256, .i1⟩
  | .hbm, ⟨71, _⟩ => ⟨S4x2048x2x4x256, .f32⟩
  | .hbm, ⟨72, _⟩ => ⟨S4x2048x2x4x256, .f32⟩
  | .hbm, ⟨73, _⟩ => ⟨S_, .f32⟩
  | .hbm, ⟨74, _⟩ => ⟨S4x2048x2x4, .f32⟩
  | .hbm, ⟨75, _⟩ => ⟨S_, .f32⟩
  | .hbm, ⟨76, _⟩ => ⟨S4x2048x2x4, .f32⟩
  | .hbm, ⟨77, _⟩ => ⟨S4x2048x2x4, .f32⟩
  | .hbm, ⟨78, _⟩ => ⟨S4x2048x2x4x1, .f32⟩
  | .hbm, ⟨79, _⟩ => ⟨S4x2048x2x4x256, .f32⟩
  | .hbm, ⟨80, _⟩ => ⟨S4x2048x2x4x256, .f32⟩
  | .hbm, ⟨81, _⟩ => ⟨S4x2048x2x4x256, .f32⟩
  | .hbm, ⟨82, _⟩ => ⟨S_, .f32⟩
  | .hbm, ⟨83, _⟩ => ⟨S4x2048x2x4, .f32⟩
  | .hbm, ⟨84, _⟩ => ⟨S4x2048x2x4x1, .f32⟩
  | .hbm, ⟨85, _⟩ => ⟨S4x2048x2x4x256, .f32⟩
  | .hbm, ⟨86, _⟩ => ⟨S4x2048x2x4x256, .f32⟩
  | .hbm, ⟨87, _⟩ => ⟨S4x2048x2x4x128, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v25 : Ref sig .tc := ⟨.hbm, 39, rfl⟩
abbrev main_values : Ref sig .tc := ⟨.hbm, 40, rfl⟩
abbrev main_indices : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_c_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Proof.FfnValue.lean ====
/- The feed-forward call over the extended reals: what the kernel's result array ends holding, and
   that the reference's term is the same function of the arguments. -/
module

public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Val

open Cert.FfnIdeal Cert.FfnIdeal.Gen

variable (m : (ℓ : Loc nD τ sig) → Buf (Elt Ideal) ℓ)

theorem pay1_at (j : S512x2048.Idx) : k0_pay1 (F := Ideal) j = 0 := by pointwise [k0_pay1]

theorem pay2_at (x : Vec Ideal S512x2048 .bf16) (w : Vec Ideal S2048x1024 .bf16) (acc : Vec Ideal S512x2048 .f32)
    (v : Vec Ideal S1024x2048 .bf16) (p : Fin 512) (q : Fin 2048) :
    k0_pay2 x w acc v (ix2 p q) = acc (ix2 p q) + ∑ l : Fin 1024,
      (max (∑ k : Fin 2048, x (ix2 p k) * w (ix2 k l)) 0 * max (∑ k : Fin 2048, x (ix2 p k) * w (ix2 k l)) 0) * v (ix2 l q) := by
  pointwise [k0_pay2]

theorem pay3_at (x : Vec Ideal S512x2048 .f32) (gt : Vec Ideal S1x1x2048 .f32) (f : Vec Ideal S512x2048 .f32)
    (g : Vec Ideal S1x2048 .f32) (p : Fin 512) (q : Fin 2048) :
    k0_pay3 x gt f g (ix2 p q) = x (ix2 p q) + gt (ix3 0 0 q) * (f (ix2 p q) *
      Ideal.rsqrt (Ideal.div (∑ k : Fin 2048, f (ix2 p k) * f (ix2 p k)) (Ideal.ofBits FTy.f32 0x45000000#32)
        + Ideal.ofBits FTy.f32 0x358637BD#32) * g (ix2 0 q)) := by
  pointwise [k0_pay3]

theorem idx : ∀ t : Fin cfg0.N, win0_0.index t = ![t.val / 8, 0]
    ∧ win0_1.index t = ![0, t.val % 8]
    ∧ win0_2.index t = ![t.val % 8, 0]
    ∧ win0_3.index t = ![t.val / 8, 0]
    ∧ win0_4.index t = ![0, 0]
    ∧ win0_5.index t = ![t.val / 32, 0, 0]
    ∧ win0_6.index t = ![t.val / 8, 0] :=
  (by decide +kernel : ∀ t : Fin grid0.N, _)

theorem acc_step (c : Dev nD) (t : Fin cfg0.N) (h : ¬ t.val % 8 = 0) :
    (outsAt0 m c t.val t.isLt).2 = k0_pay2 (iblk m c 0 t) (iblk m c 1 t)
      ((outsAt0 m c (t.val - 1) (Nat.lt_of_le_of_lt (Nat.sub_le _ _) t.isLt)).2) (iblk m c 2 t) := by
  by_cases h1 : t.val % 8 = 7
  · rw [outsAt0_C m c t h h1]; frame_out; rw [read_unread_whole]
  · rw [outsAt0_B m c t h h1]; frame_out; rw [read_unread_whole]

theorem acc_zero (c : Dev nD) (t : Fin cfg0.N) (h : t.val % 8 = 0) :
    (outsAt0 m c t.val t.isLt).2 = k0_pay2 (iblk m c 0 t) (iblk m c 1 t) (k0_pay1 (F := Ideal)) (iblk m c 2 t) := by
  rw [outsAt0_A m c t h (by omega)]; frame_out

theorem out_last (c : Dev nD) (t : Fin cfg0.N) (h : t.val % 8 = 7) :
    (outsAt0 m c t.val t.isLt).1 = k0_pay3 (iblk m c 3 t) (iblk m c 5 t) (outsAt0 m c t.val t.isLt).2 (iblk m c 4 t) := by
  rw [acc_step m c t (by omega), outsAt0_C m c t (by omega) h]; frame_out; rw [read_unread_whole]

/-- Row `r`, column `q` of the squared-ReLU network before its normalisation. -/
def hid (X0 : FVec Ideal S8192x2048 .bf16) (W1 : FVec Ideal S1x2048x8192 .f32) (W2 : FVec Ideal S1x8192x2048 .f32)
    (r : Fin 8192) (q : Fin 2048) : EReal :=
  ∑ l : Fin 8192, (max (∑ k : Fin 2048, X0 (ix2 r k) * W1 (ix3 0 k l)) 0
    * max (∑ k : Fin 2048, X0 (ix2 r k) * W1 (ix3 0 k l)) 0) * W2 (ix3 0 l q)

/-- The call's result as a function of its arguments. -/
def G (X0 : FVec Ideal S8192x2048 .bf16) (W1 : FVec Ideal S1x2048x8192 .f32) (W2 : FVec Ideal S1x8192x2048 .f32)
    (X1 : FVec Ideal S8192x2048 .f32) (gp : FVec Ideal S1x2048 .f32) (gt : FVec Ideal S4x2048 .f32)
    (r : Fin 8192) (q : Fin 2048) : EReal :=
  X1 (ix2 r q) + gt (ix2 ⟨r.val / 2048, by omega⟩ q) * (hid X0 W1 W2 r q *
    Ideal.rsqrt (Ideal.div (∑ k : Fin 2048, hid X0 W1 W2 r k * hid X0 W1 W2 r k) (Ideal.ofBits FTy.f32 0x45000000#32)
      + Ideal.ofBits FTy.f32 0x358637BD#32) * gp (ix2 0 q))

theorem acc_at (c : Dev nD) (t : Fin cfg0.N) (h : t.val % 8 = 7) (p : Fin 512) (q : Fin 2048) (r : Fin 8192)
    (hr : r.val = t.val / 8 * 512 + p.val) :
    (outsAt0 m c t.val t.isLt).2 (ix2 p q) = hid (m ((c : Thread nD τ).loc main_arg0)) (m ((c : Thread nD τ).loc main_arg1))
      (m ((c : Thread nD τ).loc main_arg2)) r q := by
  rw [Pipeline.eq_sum_fin_of_reset_step_apply_of_flush (fun n h => (outsAt0 m c n h).2) 8 (fun _ => (0 : EReal))
    (fun t j => ∑ l : Fin 1024,
      (max (∑ k : Fin 2048, (show FVec Ideal S512x2048 .bf16 from iblk m c 0 t) (ix2 (j 0) k) * (show FVec Ideal S2048x1024 .bf16 from iblk m c 1 t) (ix2 k l)) 0
       * max (∑ k : Fin 2048, (show FVec Ideal S512x2048 .bf16 from iblk m c 0 t) (ix2 (j 0) k) * (show FVec Ideal S2048x1024 .bf16 from iblk m c 1 t) (ix2 k l)) 0)
       * (show FVec Ideal S1024x2048 .bf16 from iblk m c 2 t) (ix2 l (j 1)))
    (fun t h j => by
      idx_vars j
      show (outsAt0 m c t.val t.isLt).2 _ = _
      rw [acc_zero m c t h, pay2_at, pay1_at])
    (fun t h j => by
      idx_vars j
      show (outsAt0 m c t.val t.isLt).2 _ = _
      rw [acc_step m c t h, pay2_at])
    t h _, zero_add]
  unfold hid
  refine Fin.sum_mul_add_congr fun s l hl => ?_
  have hN : t.val < 128 := lt_of_lt_of_eq t.isLt N_0
  blk_point [iblk, V, idx t, idx ⟨_, Pipeline.run_point_lt_of_flush t h s⟩]

theorem point (c : Dev nD) (t : Fin cfg0.N) (h : t.val % 8 = 7) (p : Fin 512) (q : Fin 2048) (r : Fin 8192)
    (hr : r.val = t.val / 8 * 512 + p.val) :
    k0_pay3 (iblk m c 3 t) (iblk m c 5 t) (outsAt0 m c t.val t.isLt).2 (iblk m c 4 t) (ix2 p q)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r q := by
  rw [pay3_at]
  simp only [acc_at m c t h p _ r hr]
  unfold G
  have hN : t.val < 128 := lt_of_lt_of_eq t.isLt N_0
  blk_point [iblk, V, idx t]

theorem final (c : Dev nD) : (dats m 0 c).arrAt 6 (cfgs 0).N
    = fun i : S8192x2048.Idx => G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  have h7 := (flush0_6 t).mp hf
  blk_simp
  rw [after0_6, out_last m c t h7]
  have hN : t.val < 128 := lt_of_lt_of_eq t.isLt N_0
  have hy : y = (ix2 (y 0) (y 1) : S512x2048.Idx) := eq_ix2 (n0 := 512) (n1 := 2048) y
  have hq : ((win0_6.blk t).view.emb y 1) = (y 1 : Fin 2048) := by
    apply Fin.ext; blk_simp [idx t]
  rw [hq]
  refine Eq.trans (congrArg _ hy) (point m c t h7 (y 0) (y 1) _ ?_)
  blk_simp [idx t]

end Cert.FfnIdeal.Val

end
-- ==== Proof.FfnClaim.lean ====
/- The feed-forward call over the extended reals: the claim that the kernel's result is the reference's. -/
module

public import proofs.«01_k».proof.Proof.FfnValue
public import proofs.«01_k».proof.Defs
public import proofs.«01_k».proof.Proof.Gen.FfnRefIdeal.Run
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem

namespace Cert.FfnRefIdeal.Val
open Cert.FfnRefIdeal Cert.FfnRefIdeal.Gen

/-- The reference's hidden layer, squared and multiplied by the second weights. -/
def A1 (X0 : FVec Ideal S8192x2048 .bf16) (W1 : FVec Ideal S1x2048x8192 .f32) : FVec Ideal S4x2048x8192 .f32 :=
  maximumf (Host.dotGeneral dot_S4x2048x2048_S2048x8192_S4x2048x8192_2_0_01_1_n_n none (shapeCast _ (extf .f32 X0 bitsLt_bf16_f32) shapeCasts_S8192x2048_S4x2048x2048) (shapeCast _ W1 shapeCasts_S1x2048x8192_S2048x8192)) (broadcastInDim S4x2048x8192 ![] bcast_S_S4x2048x8192 (constant S_ .f32 0x00000000#32))

def A2 (B : FVec Ideal S4x2048x8192 .f32) (W2 : FVec Ideal S1x8192x2048 .f32) : FVec Ideal S4x2048x2048 .f32 :=
  Host.dotGeneral dot_S4x2048x8192_S8192x2048_S4x2048x2048_2_0_01_1_n_n none (mulf B B) (shapeCast _ W2 shapeCasts_S1x8192x2048_S8192x2048)

theorem A1_at (X0 : FVec Ideal S8192x2048 .bf16) (W1 : FVec Ideal S1x2048x8192 .f32) (b : Fin 4) (s : Fin 2048) (l : Fin 8192) :
    A1 X0 W1 (ix3 b s l) = max (∑ k : Fin 2048, X0 (ix2 ⟨b.val * 2048 + s.val, by omega⟩ k) * W1 (ix3 0 k l)) 0 := by
  pointwise [A1]

theorem A2_at (B : FVec Ideal S4x2048x8192 .f32) (W2 : FVec Ideal S1x8192x2048 .f32) (b : Fin 4) (s : Fin 2048) (l : Fin 2048) :
    A2 B W2 (ix3 b s l) = ∑ k : Fin 8192, (B (ix3 b s k) * B (ix3 b s k)) * W2 (ix3 0 k l) := by
  pointwise [A2]

def A3 (F : FVec Ideal S4x2048x2048 .f32) (X1 : FVec Ideal S8192x2048 .f32) (gp : FVec Ideal S1x2048 .f32) (gt : FVec Ideal S4x2048 .f32) :
    FVec Ideal S8192x2048 .f32 :=
  shapeCast _ (addf (shapeCast _ X1 shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 gt)) (mulf (mulf F (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf F F) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ gp shapeCasts_S1x2048_S2048)))))) shapeCasts_S4x2048x2048_S8192x2048

theorem A3_at (F : FVec Ideal S4x2048x2048 .f32) (X1 : FVec Ideal S8192x2048 .f32) (gp : FVec Ideal S1x2048 .f32) (gt : FVec Ideal S4x2048 .f32)
    (r : Fin 8192) (q : Fin 2048) :
    A3 F X1 gp gt (ix2 r q) = X1 (ix2 r q) + gt (ix2 ⟨r.val / 2048, by omega⟩ q) * (F (ix3 ⟨r.val / 2048, by omega⟩ ⟨r.val % 2048, by omega⟩ q) *
    Ideal.rsqrt (Ideal.div (∑ k : Fin 2048, F (ix3 ⟨r.val / 2048, by omega⟩ ⟨r.val % 2048, by omega⟩ k) * F (ix3 ⟨r.val / 2048, by omega⟩ ⟨r.val % 2048, by omega⟩ k)) (Ideal.ofBits FTy.f32 0x45000000#32)
      + Ideal.ofBits FTy.f32 0x358637BD#32) * gp (ix2 0 q)) := by
  pointwise [A3]

/-- The reference's term at an index is the function the kernel computes. -/
theorem ref_at (X0 : FVec Ideal S8192x2048 .bf16) (W1 : FVec Ideal S1x2048x8192 .f32) (W2 : FVec Ideal S1x8192x2048 .f32)
    (X1 : FVec Ideal S8192x2048 .f32) (gp : FVec Ideal S1x2048 .f32) (gt : FVec Ideal S4x2048 .f32) (r : Fin 8192) (q : Fin 2048) :
    A3 (A2 (A1 X0 W1) W2) X1 gp gt (ix2 r q) = Cert.FfnIdeal.Val.G X0 W1 W2 X1 gp gt r q := by
  have hh : ∀ q : Fin 2048, A2 (A1 X0 W1) W2 (ix3 ⟨r.val / 2048, by omega⟩ ⟨r.val % 2048, by omega⟩ q) = Cert.FfnIdeal.Val.hid X0 W1 W2 r q := by
    intro q
    rw [A2_at]
    simp only [A1_at]
    have e : (⟨r.val / 2048 * 2048 + r.val % 2048, by omega⟩ : Fin 8192) = r := Fin.ext (by show r.val / 2048 * 2048 + r.val % 2048 = r.val; omega)
    rw [e]
    rfl
  rw [A3_at]
  simp only [hh]
  rfl

end Cert.FfnRefIdeal.Val

namespace Cert.Proof

theorem ffn_algebraic : Cert.algebraic_FfnIdeal_FfnRefIdeal := by
  pair_intro
  · run_from Cert.FfnIdeal.Gen.run_main m g
  · run_from Cert.FfnRefIdeal.Value.run m' g'
    rw [Cert.FfnIdeal.Val.final m c]
    funext j
    idx_vars j
    exact Cert.FfnRefIdeal.Val.ref_at _ _ _ _ _ _ _ _

end Cert.Proof
end
-- ==== Proof.OutProjValue.lean ====
/- The output projection over the extended reals: what the kernel leaves in its two result arrays. -/
module

public import proofs.«01_k».proof.Proof.Gen.OutProjIdeal.Value
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Val

open Cert.OutProjIdeal Cert.OutProjIdeal.Gen

variable (m : (ℓ : Loc nD τ sig) → Buf (Elt Ideal) ℓ)

/-- The reciprocal root of a row's mean square, offset by the norm's constant. -/
def rinv (f : Fin 2048 → EReal) : EReal :=
  Ideal.rsqrt (Ideal.div (∑ k : Fin 2048, f k * f k) (Ideal.ofBits FTy.f32 0x45000000#32) + Ideal.ofBits FTy.f32 0x358637BD#32)

theorem pay2_at (v0 : Vec Ideal S512x1024 .bf16) (v1 : Vec Ideal S1024x2048 .bf16) (v4 : Vec Ideal S512x1024 .bf16)
    (v5 : Vec Ideal S1024x2048 .bf16) (v9 : Vec Ideal S512x2048 .f32) (v11 : Vec Ideal S1x1x2048 .f32)
    (v13 : Vec Ideal S1x2048 .f32) (p : Fin 512) (q : Fin 2048) :
    k0_pay2 v0 v1 v4 v5 v9 v11 v13 (ix2 p q) = v9 (ix2 p q) + v11 (ix3 0 0 q) *
      ((∑ k : Fin 1024, v0 (ix2 p k) * v1 (ix2 k q) + ∑ k : Fin 1024, v4 (ix2 p k) * v5 (ix2 k q)) *
        rinv (fun q => ∑ k : Fin 1024, v0 (ix2 p k) * v1 (ix2 k q) + ∑ k : Fin 1024, v4 (ix2 p k) * v5 (ix2 k q)) * v13 (ix2 0 q)) := by
  unfold rinv
  pointwise [k0_pay2]

theorem pay1_at (v29 : FVec Ideal S512x2048 .f32) (v32 : FVec Ideal S1x2048 .f32)
    (v45 : Vec Ideal S1x1x2048 .f32) (v51 : Vec Ideal S1x1x2048 .f32) (p : Fin 512) (q : Fin 2048) :
    k0_pay1 v29 (k0_pay3 v32) (mulf v29 v29) v45 v51 (ix2 p q) = v29 (ix2 p q) * rinv (fun q => v29 (ix2 p q)) * v32 (ix2 0 q)
      * (1 + v45 (ix3 0 0 q)) + v51 (ix3 0 0 q) := by
  unfold rinv
  pointwise [k0_pay1, k0_pay3]

theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![t.val / 4, 0, 0]
    ∧ win0_6.index t = ![0, 0]
    ∧ win0_7.index t = ![t.val / 4, 0, 0]
    ∧ win0_8.index t = ![t.val / 4, 0, 0]
    ∧ win0_9.index t = ![t.val, 0]
    ∧ win0_10.index t = ![t.val, 0] :=
  (by decide +kernel : ∀ t : Fin grid0.N, _)

/-- The two halves of the projection, added. -/
def mix (P A : FVec Ideal S8192x1024 .bf16) (W : FVec Ideal S1x2048x2048 .f32) (r : Fin 8192) (q : Fin 2048) : EReal :=
  ∑ k : Fin 1024, P (ix2 r k) * W (ix3 0 ⟨k.val, by omega⟩ q) + ∑ k : Fin 1024, A (ix2 r k) * W (ix3 0 ⟨1024 + k.val, by omega⟩ q)

/-- The layer's state after the first sub-layer. -/
def G1 (P A : FVec Ideal S8192x1024 .bf16) (W : FVec Ideal S1x2048x2048 .f32) (X : FVec Ideal S4x2048x2048 .f32)
    (gp : FVec Ideal S1x2048 .f32) (gt : FVec Ideal S4x2048 .f32) (r : Fin 8192) (q : Fin 2048) : EReal :=
  X (ix3 ⟨r.val / 2048, by omega⟩ ⟨r.val % 2048, by omega⟩ q) + gt (ix2 ⟨r.val / 2048, by omega⟩ q) *
    (mix P A W r q * rinv (mix P A W r) * gp (ix2 0 q))

/-- That state normalised and modulated: the second sub-layer's input. -/
def G2 (P A : FVec Ideal S8192x1024 .bf16) (W : FVec Ideal S1x2048x2048 .f32) (X : FVec Ideal S4x2048x2048 .f32)
    (gp : FVec Ideal S1x2048 .f32) (gt : FVec Ideal S4x2048 .f32) (gf : FVec Ideal S1x2048 .f32) (sc sh : FVec Ideal S4x2048 .f32)
    (r : Fin 8192) (q : Fin 2048) : EReal :=
  G1 P A W X gp gt r q * rinv (G1 P A W X gp gt r) * gf (ix2 0 q) * (1 + sc (ix2 ⟨r.val / 2048, by omega⟩ q)) + sh (ix2 ⟨r.val / 2048, by omega⟩ q)

theorem point1 (c : Dev nD) (t : Fin cfg0.N) (p : Fin 512) (q : Fin 2048) (r : Fin 8192) (hr : r.val = t.val * 512 + p.val) :
    k0_pay2 (iblk m c 0 t) (View.ld (iblk m c 2 t) r0_1) (iblk m c 1 t) (View.ld (iblk m c 2 t) r0_2) (iblk m c 3 t)
      (iblk m c 5 t) (iblk m c 4 t) (ix2 p q)
      = G1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r q := by
  rw [pay2_at]
  have hN : t.val < 16 := lt_of_lt_of_eq t.isLt N_0
  have hm : ∀ q : Fin 2048, (∑ k : Fin 1024, (show FVec Ideal S512x1024 .bf16 from iblk m c 0 t) (ix2 p k) * (show FVec Ideal S1024x2048 .bf16 from View.ld (iblk m c 2 t) r0_1) (ix2 k q)
      + ∑ k : Fin 1024, (show FVec Ideal S512x1024 .bf16 from iblk m c 1 t) (ix2 p k) * (show FVec Ideal S1024x2048 .bf16 from View.ld (iblk m c 2 t) r0_2) (ix2 k q))
      = mix (m ((c : Thread nD τ).loc main_arg0)) (m ((c : Thread nD τ).loc main_arg1)) (m ((c : Thread nD τ).loc main_arg2)) r q := by
    intro q
    unfold mix
    pointwise []
    blk_point [iblk, V, idx t]
  unfold G1
  refine congrArg₂ (· + ·) ?_ (congrArg₂ (· * ·) ?_ (congrArg₂ (· * ·) (congrArg₂ (· * ·) (hm q) (congrArg rinv (funext hm))) ?_))
  all_goals blk_point [iblk, V, idx t]

theorem point2 (c : Dev nD) (t : Fin cfg0.N) (p : Fin 512) (q : Fin 2048) (r : Fin 8192) (hr : r.val = t.val * 512 + p.val)
    (v : FVec Ideal S512x2048 .f32) (hv : ∀ q, v (ix2 p q) = G1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r q) :
    k0_pay1 v (k0_pay3 (iblk m c 6 t)) (mulf v v) (iblk m c 7 t) (iblk m c 8 t) (ix2 p q)
      = G2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) r q := by
  rw [pay1_at]
  have hN : t.val < 16 := lt_of_lt_of_eq t.isLt N_0
  unfold G2
  refine congrArg₂ (· + ·) (congrArg₂ (· * ·) (congrArg₂ (· * ·) (congrArg₂ (· * ·) (hv q) (congrArg rinv (funext hv))) ?_) (congrArg _ ?_)) ?_
  all_goals blk_point [iblk, V, idx t]

theorem final1 (c : Dev nD) : (dats m 0 c).arrAt 9 (cfgs 0).N
    = fun i : S8192x2048.Idx => G1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 9 _ (by decide +kernel) fun t hf y => ?_
  blk_simp
  rw [after0_9]; frame_out
  have hN : t.val < 16 := lt_of_lt_of_eq t.isLt N_0
  have hy : y = (ix2 (y 0) (y 1) : S512x2048.Idx) := eq_ix2 (n0 := 512) (n1 := 2048) y
  have hq : ((win0_9.blk t).view.emb y 1) = (y 1 : Fin 2048) := by
    apply Fin.ext; blk_simp [idx t]
  rw [hq]
  refine Eq.trans (congrArg _ hy) (point1 m c t (y 0) (y 1) _ ?_)
  blk_simp [idx t]

theorem final2 (c : Dev nD) : (dats m 0 c).arrAt 10 (cfgs 0).N
    = fun i : S8192x2048.Idx => G2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (i 0) (i 1) := by
  refine (dats m 0 c).arrAt_eq_of_covers 10 _ (by decide +kernel) fun t hf y => ?_
  blk_simp
  rw [after0_10]; frame_out
  have hN : t.val < 16 := lt_of_lt_of_eq t.isLt N_0
  have hy : y = (ix2 (y 0) (y 1) : S512x2048.Idx) := eq_ix2 (n0 := 512) (n1 := 2048) y
  have hq : ((win0_10.blk t).view.emb y 1) = (y 1 : Fin 2048) := by
    apply Fin.ext; blk_simp [idx t]
  rw [hq]
  have hr : ((win0_10.blk t).view.emb y 0).val = t.val * 512 + (y 0 : Fin 512).val := by blk_simp [idx t]
  refine Eq.trans (congrArg _ hy) (point2 m c t (y 0) (y 1) _ hr _ fun q => point1 m c t (y 0) q _ hr)

end Cert.OutProjIdeal.Val

end
-- ==== Proof.OutProjClaim.lean ====
/- The output projection over the extended reals: the kernel's two results are the reference's. -/
module

public import proofs.«01_k».proof.Proof.OutProjValue
public import proofs.«01_k».proof.Defs
public import proofs.«01_k».proof.Proof.Gen.OutProjRefIdeal.Run
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjRefIdeal.Val
open Cert.OutProjRefIdeal Cert.OutProjRefIdeal.Gen
open Cert.OutProjIdeal.Val (mix rinv G1 G2)

/-- The reference's projection of the joined heads. -/
def A1 (P A : FVec Ideal S8192x1024 .bf16) (W : FVec Ideal S1x2048x2048 .f32) : FVec Ideal S4x2048x2048 .f32 :=
  Host.dotGeneral dot_S4x2048x2048_S2048x2048_S4x2048x2048_2_0_01_1_n_n none (shapeCast _ (concatenate S8192x2048 1 [⟨S8192x1024, (extf .f32 P bitsLt_bf16_f32)⟩, ⟨S8192x1024, (extf .f32 A bitsLt_bf16_f32)⟩] concatenates_S8192x1024_S8192x1024_S8192x2048_d1) shapeCasts_S8192x2048_S4x2048x2048) (shapeCast _ W shapeCasts_S1x2048x2048_S2048x2048)

/-- The reference's residual update. -/
def A2 (M X : FVec Ideal S4x2048x2048 .f32) (gp : FVec Ideal S1x2048 .f32) (gt : FVec Ideal S4x2048 .f32) : FVec Ideal S4x2048x2048 .f32 :=
  addf X (mulf (broadcastInDim S4x2048x2048 ![0, 1, 2] bcast_S4x1x2048_S4x2048x2048_0_1_2 (broadcastInDim S4x1x2048 ![0, 2] bcast_S4x2048_S4x1x2048_0_2 gt)) (mulf (mulf M (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf M M) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ gp shapeCasts_S1x2048_S2048)))))

/-- The reference's normalised and modulated state. -/
def A3 (Y : FVec Ideal S4x2048x2048 .f32) (gf : FVec Ideal S1x2048 .f32) (sc sh : FVec Ideal S4x2048 .f32) : FVec Ideal S8192x2048 .bf16 :=
  truncf .bf16 (shapeCast _ (addf (mulf (mulf (mulf Y (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf Y Y) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ gf shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 sc)))) (broadcastInDim S4x2048x2048 ![0, 1, 2] bcast_S4x1x2048_S4x2048x2048_0_1_2 (broadcastInDim S4x1x2048 ![0, 2] bcast_S4x2048_S4x1x2048_0_2 sh))) shapeCasts_S4x2048x2048_S8192x2048) bitsLt_bf16_f32

/-- The reference's first result. -/
def A4 (Y : FVec Ideal S4x2048x2048 .f32) : FVec Ideal S8192x2048 .f32 := shapeCast _ Y shapeCasts_S4x2048x2048_S8192x2048

theorem A1_at (P A : FVec Ideal S8192x1024 .bf16) (W : FVec Ideal S1x2048x2048 .f32) (r : Fin 8192) (q : Fin 2048) :
    A1 P A W (ix3 ⟨r.val / 2048, by omega⟩ ⟨r.val % 2048, by omega⟩ q) = mix P A W r q := by
  have e : ∀ h, (⟨r.val / 2048 * 2048 + r.val % 2048, h⟩ : Fin 8192) = r := fun h => Fin.ext (by show r.val / 2048 * 2048 + r.val % 2048 = r.val; omega)
  unfold mix
  pointwise [A1]
  all_goals simp only [e]

theorem A2_at (M X : FVec Ideal S4x2048x2048 .f32) (gp : FVec Ideal S1x2048 .f32) (gt : FVec Ideal S4x2048 .f32) (b : Fin 4) (s q : Fin 2048) :
    A2 M X gp gt (ix3 b s q) = X (ix3 b s q) + gt (ix2 b q) * (M (ix3 b s q) * rinv (fun q => M (ix3 b s q)) * gp (ix2 0 q)) := by
  unfold rinv
  pointwise [A2]

theorem A3_at (Y : FVec Ideal S4x2048x2048 .f32) (gf : FVec Ideal S1x2048 .f32) (sc sh : FVec Ideal S4x2048 .f32) (r : Fin 8192) (q : Fin 2048) :
    A3 Y gf sc sh (ix2 r q) = Y (ix3 ⟨r.val / 2048, by omega⟩ ⟨r.val % 2048, by omega⟩ q) *
      rinv (fun q => Y (ix3 ⟨r.val / 2048, by omega⟩ ⟨r.val % 2048, by omega⟩ q)) * gf (ix2 0 q)
      * (1 + sc (ix2 ⟨r.val / 2048, by omega⟩ q)) + sh (ix2 ⟨r.val / 2048, by omega⟩ q) := by
  unfold rinv
  pointwise [A3]

theorem A4_at (Y : FVec Ideal S4x2048x2048 .f32) (r : Fin 8192) (q : Fin 2048) :
    A4 Y (ix2 r q) = Y (ix3 ⟨r.val / 2048, by omega⟩ ⟨r.val % 2048, by omega⟩ q) := by
  pointwise [A4]

theorem row_at (P A : FVec Ideal S8192x1024 .bf16) (W : FVec Ideal S1x2048x2048 .f32) (X : FVec Ideal S4x2048x2048 .f32)
    (gp : FVec Ideal S1x2048 .f32) (gt : FVec Ideal S4x2048 .f32) (r : Fin 8192) (q : Fin 2048) :
    A2 (A1 P A W) X gp gt (ix3 ⟨r.val / 2048, by omega⟩ ⟨r.val % 2048, by omega⟩ q) = G1 P A W X gp gt r q := by
  rw [A2_at]
  simp only [A1_at]
  rfl

/-- The reference's first result is the function the kernel computes. -/
theorem ref1_at (P A : FVec Ideal S8192x1024 .bf16) (W : FVec Ideal S1x2048x2048 .f32) (X : FVec Ideal S4x2048x2048 .f32)
    (gp : FVec Ideal S1x2048 .f32) (gt : FVec Ideal S4x2048 .f32) (r : Fin 8192) (q : Fin 2048) :
    A4 (A2 (A1 P A W) X gp gt) (ix2 r q) = G1 P A W X gp gt r q := by
  rw [A4_at, row_at]

/-- The reference's second result is the function the kernel computes. -/
theorem ref2_at (P A : FVec Ideal S8192x1024 .bf16) (W : FVec Ideal S1x2048x2048 .f32) (X : FVec Ideal S4x2048x2048 .f32)
    (gp : FVec Ideal S1x2048 .f32) (gt : FVec Ideal S4x2048 .f32) (gf : FVec Ideal S1x2048 .f32) (sc sh : FVec Ideal S4x2048 .f32)
    (r : Fin 8192) (q : Fin 2048) :
    A3 (A2 (A1 P A W) X gp gt) gf sc sh (ix2 r q) = G2 P A W X gp gt gf sc sh r q := by
  rw [A3_at]
  simp only [row_at]
  rfl

end Cert.OutProjRefIdeal.Val

namespace Cert.Proof

theorem outProj_algebraic : Cert.algebraic_OutProjIdeal_OutProjRefIdeal := by
  pair_intro
  · run_from Cert.OutProjIdeal.Gen.run_main m g
  · run_from Cert.OutProjRefIdeal.Value.run m' g'
    · rw [Cert.OutProjIdeal.Val.final1 m c]
      funext j
      idx_vars j
      exact Cert.OutProjRefIdeal.Val.ref1_at _ _ _ _ _ _ _ _
    · rw [Cert.OutProjIdeal.Val.final2 m c]
      funext j
      idx_vars j
      obtain ⟨h0, h1, h2, h3, h4, h5, h6, h7, h8⟩ := hagree c
      refine Eq.trans (Cert.OutProjRefIdeal.Val.ref2_at (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3)) (m' ((c.tc : Thread Cert.OutProjRefIdeal.nD Cert.OutProjRefIdeal.τ).loc Cert.OutProjRefIdeal.main_arg4)) (m' ((c.tc : Thread Cert.OutProjRefIdeal.nD Cert.OutProjRefIdeal.τ).loc Cert.OutProjRefIdeal.main_arg5)) (m' ((c.tc : Thread Cert.OutProjRefIdeal.nD Cert.OutProjRefIdeal.τ).loc Cert.OutProjRefIdeal.main_arg6)) (m' ((c.tc : Thread Cert.OutProjRefIdeal.nD Cert.OutProjRefIdeal.τ).loc Cert.OutProjRefIdeal.main_arg7)) (m' ((c.tc : Thread Cert.OutProjRefIdeal.nD Cert.OutProjRefIdeal.τ).loc Cert.OutProjRefIdeal.main_arg8)) _ _) ?_
      rw [h0, h1, h2, h3, h4, h5, h6, h7, h8]

end Cert.Proof

end
-- ==== Proof.InProjValue.lean ====
/- The input projection over the extended reals: what the kernel leaves in its seven result arrays. -/
module

public import proofs.«01_k».proof.Proof.Gen.InProjIdeal.Value
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen

/-- The reciprocal root of a row's mean square, offset by the norm's constant. -/
def rinv (f : Fin 2048 → EReal) : EReal :=
  Ideal.rsqrt (Ideal.div (∑ k : Fin 2048, f k * f k) (Ideal.ofBits FTy.f32 0x45000000#32) + Ideal.ofBits FTy.f32 0x358637BD#32)

theorem pay2_at (v0 : Vec Ideal S512x2048 .f32) (v2 : Vec Ideal S1x2048 .f32) (v16 v22 : Vec Ideal S1x1x2048 .f32)
    (p : Fin 512) (q : Fin 2048) :
    k0_pay2 v0 v2 v16 v22 (ix2 p q) = v0 (ix2 p q) * rinv (fun q => v0 (ix2 p q)) * v2 (ix2 0 q) * (1 + v16 (ix3 0 0 q)) + v22 (ix3 0 0 q) := by
  unfold rinv
  pointwise [k0_pay2]

/-- An element that one update alone lands on ends at that update. -/
theorem scatter_apply {s si u : Shape} {w : Nat} {α : Type} (d : ScatterDims s si u) (x : s.Idx → α) (ids : IVec si w) (upd : u.Idx → α)
    (i : s.Idx) (j : u.Idx) (hj : d.resultIdx? j ids = some i) (hu : ∀ j', d.resultIdx? j' ids = some i → j' = j) :
    Host.scatter d (fun _ b => b) x ids upd i = upd j := by
  unfold Host.scatter
  have key : ∀ (l : List (Fin u.numel)) (r : s.Idx → α), (r i = upd j ∨ u.rowMajor j ∈ l) →
      l.foldl (fun r n => match d.resultIdx? (u.rowMajor.symm n) ids with
        | some i => fun i' => if i' = i then upd (u.rowMajor.symm n) else r i'
        | none => r) r i = upd j := by
    intro l
    induction l with
    | nil => intro r h; simpa using h
    | cons n l ih =>
      intro r h
      rw [List.foldl_cons]
      apply ih
      by_cases hn : n = u.rowMajor j
      · left
        subst hn
        rw [Equiv.symm_apply_apply, hj]
        simp
      · rcases h with h | h
        · left
          cases hr : d.resultIdx? (u.rowMajor.symm n) ids with
          | none => simpa using h
          | some i0 =>
            have hne : i ≠ i0 := by
              rintro rfl
              apply hn
              rw [← hu _ hr, Equiv.apply_symm_apply]
            simp [hne, h]
        · right
          rcases List.mem_cons.1 h with h | h
          · exact absurd h.symm hn
          · exact h
  exact key _ _ (Or.inr (List.mem_finRange _))

theorem result_at (ids : IVec S1 32) (h0 : ∀ i, ids i = 0#32) (j : S2048x4752.Idx) :
    scatter_S2048x4864_S1_S2048x4752_01_n_1_0.resultIdx? j ids
      = some (ix2 ⟨(j 0).val, (j 0).isLt⟩ ⟨(j 1).val, lt_trans (j 1).isLt (by decide)⟩ : S2048x4864.Idx) := by
  have hs : ∀ a, scatter_S2048x4864_S1_S2048x4752_01_n_1_0.start j ids a = 0 := by
    intro a
    unfold ScatterDims.start
    split
    · rw [h0]; rfl
    · rfl
  have hw0 : scatter_S2048x4864_S1_S2048x4752_01_n_1_0.window j 0 = (j 0).val := rfl
  have hw1 : scatter_S2048x4864_S1_S2048x4752_01_n_1_0.window j 1 = (j 1).val := rfl
  have h0' : (j 0).val < 2048 := (j 0).isLt
  have h1' : (j 1).val < 4752 := (j 1).isLt
  unfold ScatterDims.resultIdx?
  rw [dif_pos]
  · congr 1
    funext a
    apply Fin.ext
    fin_cases a
    · show (scatter_S2048x4864_S1_S2048x4752_01_n_1_0.start j ids 0 + scatter_S2048x4864_S1_S2048x4752_01_n_1_0.window j 0).toNat = (j 0).val
      rw [hs, hw0]; omega
    · show (scatter_S2048x4864_S1_S2048x4752_01_n_1_0.start j ids 1 + scatter_S2048x4864_S1_S2048x4752_01_n_1_0.window j 1).toNat = (j 1).val
      rw [hs, hw1]; omega
  · intro a
    rw [hs]
    fin_cases a
    · show 0 ≤ (0 : Int) + scatter_S2048x4864_S1_S2048x4752_01_n_1_0.window j 0 ∧ (0 : Int) + scatter_S2048x4864_S1_S2048x4752_01_n_1_0.window j 0 < (2048 : Nat)
      rw [hw0]; omega
    · show 0 ≤ (0 : Int) + scatter_S2048x4864_S1_S2048x4752_01_n_1_0.window j 1 ∧ (0 : Int) + scatter_S2048x4864_S1_S2048x4752_01_n_1_0.window j 1 < (4864 : Nat)
      rw [hw1]; omega

/-- The padded weights hold the weights on the columns the layer has. -/
theorem padded_at (x : FVec Ideal S2048x4864 .bf16) (ids : IVec S1 32) (h0 : ∀ i, ids i = 0#32) (upd : FVec Ideal S2048x4752 .bf16)
    (k : Fin 2048) (j : Fin 4864) (hj : j.val < 4752) :
    Host.scatter scatter_S2048x4864_S1_S2048x4752_01_n_1_0 (fun _ b => b) x ids upd (ix2 k j) = upd (ix2 k ⟨j.val, hj⟩) := by
  refine scatter_apply _ _ _ _ _ _ (result_at ids h0 _) fun j' hj' => ?_
  rw [result_at ids h0 j'] at hj'
  have e := Option.some.inj hj'
  have e0 := congrArg Fin.val (congrFun e 0)
  have e1 := congrArg Fin.val (congrFun e 1)
  funext a
  apply Fin.ext
  fin_cases a
  · exact e0
  · exact e1

variable (m : (ℓ : Loc nD τ sig) → Buf (Elt Ideal) ℓ)

theorem weights_at (c : Dev nD) (k : Fin 2048) (j : Fin 4864) (hj : j.val < 4752) :
    (show FVec Ideal S2048x4864 .bf16 from V m c main_v4) (ix2 k j)
      = (show FVec Ideal S1x2048x4752 .f32 from m ((c : Thread nD τ).loc main_arg4)) (ix3 0 k ⟨j.val, hj⟩) := by
  show (V m c main_v4) _ = _
  entry_read
  refine Eq.trans (padded_at _ _ ?_ _ k j hj) ?_
  · intro i; rfl
  · pointwise []

theorem idx : ∀ t : Fin cfg0.N, win0_0.index t = ![t.val, 0]
    ∧ win0_1.index t = ![0, 0]
    ∧ win0_2.index t = ![t.val / 4, 0, 0]
    ∧ win0_3.index t = ![t.val / 4, 0, 0]
    ∧ win0_4.index t = ![0, 0]
    ∧ win0_5.index t = ![t.val, 0]
    ∧ win0_6.index t = ![0, t.val, 0]
    ∧ win0_7.index t = ![t.val, 0]
    ∧ win0_8.index t = ![t.val, 0]
    ∧ win0_9.index t = ![0, t.val, 0]
    ∧ win0_10.index t = ![t.val, 0]
    ∧ win0_11.index t = ![t.val, 0] :=
  (by decide +kernel : ∀ t : Fin grid0.N, _)

/-- The normalised and modulated input. -/
def hn (X : FVec Ideal S4x2048x2048 .f32) (g : FVec Ideal S1x2048 .f32) (sc sh : FVec Ideal S4x2048 .f32) (r : Fin 8192) (k : Fin 2048) : EReal :=
  X (ix3 ⟨r.val / 2048, by omega⟩ ⟨r.val % 2048, by omega⟩ k) * rinv (fun k => X (ix3 ⟨r.val / 2048, by omega⟩ ⟨r.val % 2048, by omega⟩ k))
    * g (ix2 0 k) * (1 + sc (ix2 ⟨r.val / 2048, by omega⟩ k)) + sh (ix2 ⟨r.val / 2048, by omega⟩ k)

/-- The projection at row `r` and column `j`. -/
def Z (X : FVec Ideal S4x2048x2048 .f32) (g : FVec Ideal S1x2048 .f32) (sc sh : FVec Ideal S4x2048 .f32) (W : FVec Ideal S1x2048x4752 .f32)
    (r : Fin 8192) (j : Fin 4752) : EReal :=
  ∑ k : Fin 2048, hn X g sc sh r k * W (ix3 0 k j)

theorem hn_at (c : Dev nD) (t : Fin cfg0.N) (p : Fin 512) (k : Fin 2048) (r : Fin 8192) (hr : r.val = t.val * 512 + p.val) :
    k0_pay2 (iblk m c 0 t) (iblk m c 1 t) (iblk m c 2 t) (iblk m c 3 t) (ix2 p k)
      = hn (m ((c : Thread nD τ).loc main_arg0)) (m ((c : Thread nD τ).loc main_arg1)) (m ((c : Thread nD τ).loc main_arg2))
        (m ((c : Thread nD τ).loc main_arg3)) r k := by
  rw [pay2_at]
  have hN : t.val < 16 := lt_of_lt_of_eq t.isLt N_0
  have hx : ∀ k : Fin 2048, (show FVec Ideal S512x2048 .f32 from iblk m c 0 t) (ix2 p k)
      = (show FVec Ideal S4x2048x2048 .f32 from m ((c : Thread nD τ).loc main_arg0)) (ix3 ⟨r.val / 2048, by omega⟩ ⟨r.val % 2048, by omega⟩ k) := by
    intro k
    blk_point [iblk, V, idx t]
  unfold hn
  refine congrArg₂ (· + ·) (congrArg₂ (· * ·) (congrArg₂ (· * ·) (congrArg₂ (· * ·) (hx k) (congrArg rinv (funext hx))) ?_) (congrArg _ ?_)) ?_
  all_goals blk_point [iblk, V, idx t]

theorem read_whole (t : Fin cfg0.N) (A : FVec Ideal S2048x4864 .bf16) (k : Fin 2048) (j : Fin 4864) :
    View.read (Elt Ideal) ((cfg0.win 4).blk t).view A (ix2 k j) = A (ix2 k j) := by
  blk_point [idx t]

theorem block_eq (c : Dev nD) (t : Fin cfg0.N) :
    iblk m c 4 t = View.read (Elt Ideal) ((cfg0.win 4).blk t).view (V m c main_v4) := rfl

theorem blockW_at (c : Dev nD) (t : Fin cfg0.N) (k : Fin 2048) (j : Fin 4864) (hj : j.val < 4752) :
    (show FVec Ideal S2048x4864 .bf16 from iblk m c 4 t) (ix2 k j)
      = (show FVec Ideal S1x2048x4752 .f32 from m ((c : Thread nD τ).loc main_arg4)) (ix3 0 k ⟨j.val, hj⟩) := by
  have h := weights_at m c k j hj
  rw [block_eq]
  generalize V m c main_v4 = A at h ⊢
  exact (read_whole t A k j).trans h

theorem Z_at (c : Dev nD) (t : Fin cfg0.N) (p : Fin 512) (j : Fin 4864) (r : Fin 8192) (hr : r.val = t.val * 512 + p.val) (j' : Fin 4752)
    (hj : j.val = j'.val) :
    ∑ k : Fin 2048, k0_pay2 (iblk m c 0 t) (iblk m c 1 t) (iblk m c 2 t) (iblk m c 3 t) (ix2 p k)
        * (show FVec Ideal S2048x4864 .bf16 from iblk m c 4 t) (ix2 k j)
      = Z (m ((c : Thread nD τ).loc main_arg0)) (m ((c : Thread nD τ).loc main_arg1)) (m ((c : Thread nD τ).loc main_arg2))
        (m ((c : Thread nD τ).loc main_arg3)) (m ((c : Thread nD τ).loc main_arg4)) r j' := by
  unfold Z
  refine Finset.sum_congr rfl fun k _ => ?_
  rw [hn_at m c t p k r hr, blockW_at m c t k j (by rw [hj]; exact j'.isLt)]
  exact congrArg (fun z => _ * (show FVec Ideal S1x2048x4752 .f32 from m ((c : Thread nD τ).loc main_arg4)) (ix3 0 k z)) (Fin.ext hj)

set_option maxHeartbeats 1600000 in
theorem out5_at (x0 : Vec Ideal S512x2048 .f32) (x1 : Vec Ideal S1x2048 .f32) (x2 : Vec Ideal S1x1x2048 .f32) (x3 : Vec Ideal S1x1x2048 .f32)
    (x4 : Vec Ideal S2048x4864 .bf16) (y : S512x1024.Idx) :
    out0_5 x0 x1 x2 x3 x4 y = ∑ k : Fin 2048, k0_pay2 x0 x1 x2 x3 (ix2 (y 0) k) * x4 (ix2 k ⟨0 + (y 1).val, by
      have h1 : (y 1).val < 1024 := (y 1).isLt
      omega⟩) := by
  unfold_out out0_5
  canon_tiles x h
  all_goals (open_payloads; pointwise []; blk_point [])

theorem final5 (c : Dev nD) : (dats m 0 c).arrAt 5 (cfgs 0).N
    = fun i : S8192x1024.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 0) ⟨0 + (i 1).val, by
          have h1 : (i 1).val < 1024 := (i 1).isLt
          omega⟩ := by
  refine (dats m 0 c).arrAt_eq_of_covers 5 _ (by decide +kernel) fun t hf y => ?_
  blk_simp
  rw [after0_5, out5_at]
  have hN : t.val < 16 := lt_of_lt_of_eq t.isLt N_0
  refine Z_at m c t _ _ _ ?_ _ ?_
  all_goals blk_simp [idx t]

set_option maxHeartbeats 1600000 in
theorem out6_at (x0 : Vec Ideal S512x2048 .f32) (x1 : Vec Ideal S1x2048 .f32) (x2 : Vec Ideal S1x1x2048 .f32) (x3 : Vec Ideal S1x1x2048 .f32)
    (x4 : Vec Ideal S2048x4864 .bf16) (y : S8x512x128.Idx) :
    out0_6 x0 x1 x2 x3 x4 y = ∑ k : Fin 2048, k0_pay2 x0 x1 x2 x3 (ix2 (y 1) k) * x4 (ix2 k ⟨1024 + (y 0).val * 128 + (y 2).val, by
      have h0 : (y 0).val < 8 := (y 0).isLt
      have h2 : (y 2).val < 128 := (y 2).isLt
      omega⟩) := by
  unfold_out out0_6
  canon_tiles x h
  all_goals (open_payloads; pointwise []; blk_point [])

theorem final6 (c : Dev nD) : (dats m 0 c).arrAt 6 (cfgs 0).N
    = fun i : S8x8192x128.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 1) ⟨1024 + (i 0).val * 128 + (i 2).val, by
          have h0 : (i 0).val < 8 := (i 0).isLt
          have h2 : (i 2).val < 128 := (i 2).isLt
          omega⟩ := by
  refine (dats m 0 c).arrAt_eq_of_covers 6 _ (by decide +kernel) fun t hf y => ?_
  blk_simp
  rw [after0_6, out6_at]
  have hN : t.val < 16 := lt_of_lt_of_eq t.isLt N_0
  refine Z_at m c t _ _ _ ?_ _ ?_
  all_goals blk_simp [idx t]

set_option maxHeartbeats 1600000 in
theorem out7_at (x0 : Vec Ideal S512x2048 .f32) (x1 : Vec Ideal S1x2048 .f32) (x2 : Vec Ideal S1x1x2048 .f32) (x3 : Vec Ideal S1x1x2048 .f32)
    (x4 : Vec Ideal S2048x4864 .bf16) (y : S512x256.Idx) :
    out0_7 x0 x1 x2 x3 x4 y = ∑ k : Fin 2048, k0_pay2 x0 x1 x2 x3 (ix2 (y 0) k) * x4 (ix2 k ⟨2048 + (y 1).val, by
      have h1 : (y 1).val < 256 := (y 1).isLt
      omega⟩) := by
  unfold_out out0_7
  canon_tiles x h
  all_goals (open_payloads; pointwise []; blk_point [])

theorem final7 (c : Dev nD) : (dats m 0 c).arrAt 7 (cfgs 0).N
    = fun i : S8192x256.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 0) ⟨2048 + (i 1).val, by
          have h1 : (i 1).val < 256 := (i 1).isLt
          omega⟩ := by
  refine (dats m 0 c).arrAt_eq_of_covers 7 _ (by decide +kernel) fun t hf y => ?_
  blk_simp
  rw [after0_7, out7_at]
  have hN : t.val < 16 := lt_of_lt_of_eq t.isLt N_0
  refine Z_at m c t _ _ _ ?_ _ ?_
  all_goals blk_simp [idx t]

set_option maxHeartbeats 1600000 in
theorem out8_at (x0 : Vec Ideal S512x2048 .f32) (x1 : Vec Ideal S1x2048 .f32) (x2 : Vec Ideal S1x1x2048 .f32) (x3 : Vec Ideal S1x1x2048 .f32)
    (x4 : Vec Ideal S2048x4864 .bf16) (y : S512x256.Idx) :
    out0_8 x0 x1 x2 x3 x4 y = ∑ k : Fin 2048, k0_pay2 x0 x1 x2 x3 (ix2 (y 0) k) * x4 (ix2 k ⟨2304 + (y 1).val, by
      have h1 : (y 1).val < 256 := (y 1).isLt
      omega⟩) := by
  unfold_out out0_8
  canon_tiles x h
  all_goals (open_payloads; pointwise []; blk_point [])

theorem final8 (c : Dev nD) : (dats m 0 c).arrAt 8 (cfgs 0).N
    = fun i : S8192x256.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 0) ⟨2304 + (i 1).val, by
          have h1 : (i 1).val < 256 := (i 1).isLt
          omega⟩ := by
  refine (dats m 0 c).arrAt_eq_of_covers 8 _ (by decide +kernel) fun t hf y => ?_
  blk_simp
  rw [after0_8, out8_at]
  have hN : t.val < 16 := lt_of_lt_of_eq t.isLt N_0
  refine Z_at m c t _ _ _ ?_ _ ?_
  all_goals blk_simp [idx t]

set_option maxHeartbeats 1600000 in
theorem out9_at (x0 : Vec Ideal S512x2048 .f32) (x1 : Vec Ideal S1x2048 .f32) (x2 : Vec Ideal S1x1x2048 .f32) (x3 : Vec Ideal S1x1x2048 .f32)
    (x4 : Vec Ideal S2048x4864 .bf16) (y : S16x512x128.Idx) :
    out0_9 x0 x1 x2 x3 x4 y = ∑ k : Fin 2048, k0_pay2 x0 x1 x2 x3 (ix2 (y 1) k) * x4 (ix2 k ⟨2560 + (y 0).val * 128 + (y 2).val, by
      have h0 : (y 0).val < 16 := (y 0).isLt
      have h2 : (y 2).val < 128 := (y 2).isLt
      omega⟩) := by
  unfold_out out0_9
  canon_tiles x h
  all_goals (open_payloads; pointwise []; blk_point [])

theorem final9 (c : Dev nD) : (dats m 0 c).arrAt 9 (cfgs 0).N
    = fun i : S16x8192x128.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 1) ⟨2560 + (i 0).val * 128 + (i 2).val, by
          have h0 : (i 0).val < 16 := (i 0).isLt
          have h2 : (i 2).val < 128 := (i 2).isLt
          omega⟩ := by
  refine (dats m 0 c).arrAt_eq_of_covers 9 _ (by decide +kernel) fun t hf y => ?_
  blk_simp
  rw [after0_9, out9_at]
  have hN : t.val < 16 := lt_of_lt_of_eq t.isLt N_0
  refine Z_at m c t _ _ _ ?_ _ ?_
  all_goals blk_simp [idx t]

set_option maxHeartbeats 1600000 in
theorem out10_at (x0 : Vec Ideal S512x2048 .f32) (x1 : Vec Ideal S1x2048 .f32) (x2 : Vec Ideal S1x1x2048 .f32) (x3 : Vec Ideal S1x1x2048 .f32)
    (x4 : Vec Ideal S2048x4864 .bf16) (y : S512x128.Idx) :
    out0_10 x0 x1 x2 x3 x4 y = ∑ k : Fin 2048, k0_pay2 x0 x1 x2 x3 (ix2 (y 0) k) * x4 (ix2 k ⟨4608 + (y 1).val, by
      have h1 : (y 1).val < 128 := (y 1).isLt
      omega⟩) := by
  unfold_out out0_10
  canon_tiles x h
  all_goals (open_payloads; pointwise []; blk_point [])

theorem final10 (c : Dev nD) : (dats m 0 c).arrAt 10 (cfgs 0).N
    = fun i : S8192x128.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 0) ⟨4608 + (i 1).val, by
          have h1 : (i 1).val < 128 := (i 1).isLt
          omega⟩ := by
  refine (dats m 0 c).arrAt_eq_of_covers 10 _ (by decide +kernel) fun t hf y => ?_
  blk_simp
  rw [after0_10, out10_at]
  have hN : t.val < 16 := lt_of_lt_of_eq t.isLt N_0
  refine Z_at m c t _ _ _ ?_ _ ?_
  all_goals blk_simp [idx t]

set_option maxHeartbeats 1600000 in
theorem out11_at (x0 : Vec Ideal S512x2048 .f32) (x1 : Vec Ideal S1x2048 .f32) (x2 : Vec Ideal S1x1x2048 .f32) (x3 : Vec Ideal S1x1x2048 .f32)
    (x4 : Vec Ideal S2048x4864 .bf16) (y : S512x16.Idx) :
    out0_11 x0 x1 x2 x3 x4 y = ∑ k : Fin 2048, k0_pay2 x0 x1 x2 x3 (ix2 (y 0) k) * x4 (ix2 k ⟨4736 + (y 1).val, by
      have h1 : (y 1).val < 16 := (y 1).isLt
      omega⟩) := by
  unfold_out out0_11
  canon_tiles x h
  all_goals (open_payloads; pointwise []; blk_point [])

theorem final11 (c : Dev nD) : (dats m 0 c).arrAt 11 (cfgs 0).N
    = fun i : S8192x16.Idx => Z (m ((c : Thread nD τ).loc main_arg0)) (m ((c : Thread nD τ).loc main_arg1)) (m ((c : Thread nD τ).loc main_arg2))
        (m ((c : Thread nD τ).loc main_arg3)) (m ((c : Thread nD τ).loc main_arg4)) (i 0) ⟨4736 + (i 1).val, by
          have h1 : (i 1).val < 16 := (i 1).isLt
          omega⟩ := by
  refine (dats m 0 c).arrAt_eq_of_covers 11 _ (by decide +kernel) fun t hf y => ?_
  blk_simp
  rw [after0_11, out11_at]
  have hN : t.val < 16 := lt_of_lt_of_eq t.isLt N_0
  refine Z_at m c t _ _ _ ?_ _ ?_
  all_goals blk_simp [idx t]

end Cert.InProjIdeal.Val

end
-- ==== Proof.InProjClaim.lean ====
/- The input projection over the extended reals: the kernel's seven results are the reference's. -/
module

public import proofs.«01_k».proof.Proof.InProjValue
public import proofs.«01_k».proof.Defs
public import proofs.«01_k».proof.Proof.Gen.InProjRefIdeal.Run
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjRefIdeal.Val
open Cert.InProjRefIdeal Cert.InProjRefIdeal.Gen
open Cert.InProjIdeal.Val (hn rinv Z)

/-- The reference's normalised and modulated input. -/
def A1 (X : FVec Ideal S4x2048x2048 .f32) (g : FVec Ideal S1x2048 .f32) (sc sh : FVec Ideal S4x2048 .f32) : FVec Ideal S4x2048x2048 .f32 :=
  addf (mulf (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 sc)))) (broadcastInDim S4x2048x2048 ![0, 1, 2] bcast_S4x1x2048_S4x2048x2048_0_1_2 (broadcastInDim S4x1x2048 ![0, 2] bcast_S4x2048_S4x1x2048_0_2 sh))

/-- The reference's projection. -/
def A2 (H : FVec Ideal S4x2048x2048 .f32) (W : FVec Ideal S1x2048x4752 .f32) : FVec Ideal S4x2048x4752 .f32 :=
  Host.dotGeneral dot_S4x2048x2048_S2048x4752_S4x2048x4752_2_0_01_1_n_n none H (shapeCast _ W shapeCasts_S1x2048x4752_S2048x4752)

theorem A1_at (X : FVec Ideal S4x2048x2048 .f32) (g : FVec Ideal S1x2048 .f32) (sc sh : FVec Ideal S4x2048 .f32) (b : Fin 4) (s q : Fin 2048) :
    A1 X g sc sh (ix3 b s q) = X (ix3 b s q) * rinv (fun q => X (ix3 b s q)) * g (ix2 0 q) * (1 + sc (ix2 b q)) + sh (ix2 b q) := by
  unfold rinv
  pointwise [A1]

theorem A2_at (H : FVec Ideal S4x2048x2048 .f32) (W : FVec Ideal S1x2048x4752 .f32) (b : Fin 4) (s : Fin 2048) (q : Fin 4752) :
    A2 H W (ix3 b s q) = ∑ k : Fin 2048, H (ix3 b s k) * W (ix3 0 k q) := by
  pointwise [A2]

theorem Z_at (X : FVec Ideal S4x2048x2048 .f32) (g : FVec Ideal S1x2048 .f32) (sc sh : FVec Ideal S4x2048 .f32) (W : FVec Ideal S1x2048x4752 .f32)
    (r : Fin 8192) (q : Fin 4752) :
    A2 (A1 X g sc sh) W (ix3 ⟨r.val / 2048, by omega⟩ ⟨r.val % 2048, by omega⟩ q) = Z X g sc sh W r q := by
  rw [A2_at]
  simp only [A1_at]
  rfl

/-- Result 0 from the projection. -/
def R5 (D : FVec Ideal S4x2048x4752 .f32) : FVec Ideal S8192x1024 .bf16 :=
  truncf .bf16 (extractStridedSlice S8192x1024 ![0, 0] (shapeCast _ D shapeCasts_S4x2048x4752_S8192x4752) slices_S8192x4752_S8192x1024_0_0) bitsLt_bf16_f32

theorem R5_at (D : FVec Ideal S4x2048x4752 .f32) (Y : Fin 8192 → Fin 4752 → EReal)
    (hD : ∀ r q, D (ix3 ⟨r.val / 2048, by omega⟩ ⟨r.val % 2048, by omega⟩ q) = Y r q) (r : Fin 8192) (q : Fin 1024) :
    R5 D (ix2 r q) = Y r ⟨0 + q.val, by omega⟩ := by
  rw [← hD]
  pointwise [R5]
  all_goals blk_point []

/-- Result 1 from the projection. -/
def R6 (D : FVec Ideal S4x2048x4752 .f32) : FVec Ideal S8x8192x128 .bf16 :=
  truncf .bf16 (transpose S8x8192x128 [1, 0, 2] (shapeCast _ (extractStridedSlice S8192x1024 ![0, 1024] (shapeCast _ D shapeCasts_S4x2048x4752_S8192x4752) slices_S8192x4752_S8192x1024_0_1024) shapeCasts_S8192x1024_S8192x8x128) transposes_S8192x8x128_S8x8192x128_1_0_2) bitsLt_bf16_f32

theorem R6_at (D : FVec Ideal S4x2048x4752 .f32) (Y : Fin 8192 → Fin 4752 → EReal)
    (hD : ∀ r q, D (ix3 ⟨r.val / 2048, by omega⟩ ⟨r.val % 2048, by omega⟩ q) = Y r q) (h : Fin 8) (r : Fin 8192) (q : Fin 128) :
    R6 D (ix3 h r q) = Y r ⟨1024 + h.val * 128 + q.val, by omega⟩ := by
  rw [← hD]
  pointwise [R6]
  all_goals blk_point []

/-- Result 2 from the projection. -/
def R7 (D : FVec Ideal S4x2048x4752 .f32) : FVec Ideal S8192x256 .bf16 :=
  truncf .bf16 (extractStridedSlice S8192x256 ![0, 2048] (shapeCast _ D shapeCasts_S4x2048x4752_S8192x4752) slices_S8192x4752_S8192x256_0_2048) bitsLt_bf16_f32

theorem R7_at (D : FVec Ideal S4x2048x4752 .f32) (Y : Fin 8192 → Fin 4752 → EReal)
    (hD : ∀ r q, D (ix3 ⟨r.val / 2048, by omega⟩ ⟨r.val % 2048, by omega⟩ q) = Y r q) (r : Fin 8192) (q : Fin 256) :
    R7 D (ix2 r q) = Y r ⟨2048 + q.val, by omega⟩ := by
  rw [← hD]
  pointwise [R7]
  all_goals blk_point []

/-- Result 3 from the projection. -/
def R8 (D : FVec Ideal S4x2048x4752 .f32) : FVec Ideal S8192x256 .bf16 :=
  truncf .bf16 (extractStridedSlice S8192x256 ![0, 2304] (shapeCast _ D shapeCasts_S4x2048x4752_S8192x4752) slices_S8192x4752_S8192x256_0_2304) bitsLt_bf16_f32

theorem R8_at (D : FVec Ideal S4x2048x4752 .f32) (Y : Fin 8192 → Fin 4752 → EReal)
    (hD : ∀ r q, D (ix3 ⟨r.val / 2048, by omega⟩ ⟨r.val % 2048, by omega⟩ q) = Y r q) (r : Fin 8192) (q : Fin 256) :
    R8 D (ix2 r q) = Y r ⟨2304 + q.val, by omega⟩ := by
  rw [← hD]
  pointwise [R8]
  all_goals blk_point []

/-- Result 4 from the projection. -/
def R9 (D : FVec Ideal S4x2048x4752 .f32) : FVec Ideal S16x8192x128 .bf16 :=
  truncf .bf16 (transpose S16x8192x128 [1, 0, 2] (shapeCast _ (extractStridedSlice S8192x2048 ![0, 2560] (shapeCast _ D shapeCasts_S4x2048x4752_S8192x4752) slices_S8192x4752_S8192x2048_0_2560) shapeCasts_S8192x2048_S8192x16x128) transposes_S8192x16x128_S16x8192x128_1_0_2) bitsLt_bf16_f32

theorem R9_at (D : FVec Ideal S4x2048x4752 .f32) (Y : Fin 8192 → Fin 4752 → EReal)
    (hD : ∀ r q, D (ix3 ⟨r.val / 2048, by omega⟩ ⟨r.val % 2048, by omega⟩ q) = Y r q) (h : Fin 16) (r : Fin 8192) (q : Fin 128) :
    R9 D (ix3 h r q) = Y r ⟨2560 + h.val * 128 + q.val, by omega⟩ := by
  rw [← hD]
  pointwise [R9]
  all_goals blk_point []

/-- Result 5 from the projection. -/
def R10 (D : FVec Ideal S4x2048x4752 .f32) : FVec Ideal S8192x128 .bf16 :=
  truncf .bf16 (extractStridedSlice S8192x128 ![0, 4608] (shapeCast _ D shapeCasts_S4x2048x4752_S8192x4752) slices_S8192x4752_S8192x128_0_4608) bitsLt_bf16_f32

theorem R10_at (D : FVec Ideal S4x2048x4752 .f32) (Y : Fin 8192 → Fin 4752 → EReal)
    (hD : ∀ r q, D (ix3 ⟨r.val / 2048, by omega⟩ ⟨r.val % 2048, by omega⟩ q) = Y r q) (r : Fin 8192) (q : Fin 128) :
    R10 D (ix2 r q) = Y r ⟨4608 + q.val, by omega⟩ := by
  rw [← hD]
  pointwise [R10]
  all_goals blk_point []

/-- Result 6 from the projection. -/
def R11 (D : FVec Ideal S4x2048x4752 .f32) : FVec Ideal S8192x16 .f32 :=
  extractStridedSlice S8192x16 ![0, 4736] (shapeCast _ D shapeCasts_S4x2048x4752_S8192x4752) slices_S8192x4752_S8192x16_0_4736

theorem R11_at (D : FVec Ideal S4x2048x4752 .f32) (Y : Fin 8192 → Fin 4752 → EReal)
    (hD : ∀ r q, D (ix3 ⟨r.val / 2048, by omega⟩ ⟨r.val % 2048, by omega⟩ q) = Y r q) (r : Fin 8192) (q : Fin 16) :
    R11 D (ix2 r q) = Y r ⟨4736 + q.val, by omega⟩ := by
  rw [← hD]
  pointwise [R11]
  all_goals blk_point []

end Cert.InProjRefIdeal.Val

namespace Cert.Proof

set_option maxHeartbeats 6400000 in
theorem inProj_algebraic : Cert.algebraic_InProjIdeal_InProjRefIdeal := by
  pair_intro
  · run_from Cert.InProjIdeal.Gen.run_main m g
  · run_from Cert.InProjRefIdeal.Value.run m' g'
    · rw [Cert.InProjIdeal.Val.final5 m c]
      funext j
      idx_vars j
      exact Cert.InProjRefIdeal.Val.R5_at _ _ (Cert.InProjRefIdeal.Val.Z_at _ _ _ _ _) _ _
    · rw [Cert.InProjIdeal.Val.final6 m c]
      funext j
      idx_vars j
      exact Cert.InProjRefIdeal.Val.R6_at _ _ (Cert.InProjRefIdeal.Val.Z_at _ _ _ _ _) _ _ _
    · rw [Cert.InProjIdeal.Val.final7 m c]
      funext j
      idx_vars j
      exact Cert.InProjRefIdeal.Val.R7_at _ _ (Cert.InProjRefIdeal.Val.Z_at _ _ _ _ _) _ _
    · rw [Cert.InProjIdeal.Val.final8 m c]
      funext j
      idx_vars j
      exact Cert.InProjRefIdeal.Val.R8_at _ _ (Cert.InProjRefIdeal.Val.Z_at _ _ _ _ _) _ _
    · rw [Cert.InProjIdeal.Val.final9 m c]
      funext j
      idx_vars j
      exact Cert.InProjRefIdeal.Val.R9_at _ _ (Cert.InProjRefIdeal.Val.Z_at _ _ _ _ _) _ _ _
    · rw [Cert.InProjIdeal.Val.final10 m c]
      funext j
      idx_vars j
      exact Cert.InProjRefIdeal.Val.R10_at _ _ (Cert.InProjRefIdeal.Val.Z_at _ _ _ _ _) _ _
    · rw [Cert.InProjIdeal.Val.final11 m c]
      funext j
      idx_vars j
      exact Cert.InProjRefIdeal.Val.R11_at _ _ (Cert.InProjRefIdeal.Val.Z_at _ _ _ _ _) _ _

end Cert.Proof

end
-- ==== Proof.PoolParts.lean ====
/- Pooling call: what the idealized kernel computes. The scratch of a tile holds 16 earlier positions and the tile's own
512, so each shifted load of it reads the activations some positions earlier. -/
module

public import proofs.«01_k».proof.Proof.Gen.PoolIdeal.Value
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Val
open Cert.PoolIdeal Cert.PoolIdeal.Gen
variable (m : (ℓ : Loc nD τ sig) → Buf (Elt Ideal) ℓ)

theorem pay1_at (a : Vec Ideal S512x1024 .f32) (g : FVec Ideal S1x1024 .f32) (b : FVec Ideal S512x1024 .f32) (p : Fin 512) (q : Fin 1024) :
    k0_pay1 a g b (ix2 p q) = a (ix2 p q) * Ideal.rsqrt (Ideal.div (∑ k : Fin 1024, b (ix2 p k)) (Ideal.ofBits FTy.f32 0x44800000#32)
        + Ideal.ofBits FTy.f32 0x358637BD#32) * g (ix2 0 q) := by
  pointwise [k0_pay1]

theorem pay2_at (i : grid0.Coords) (v : Vec Ideal S16x1024 .bf16) (p : Fin 16) (q : Fin 1024) :
    k0_pay2 i v (ix2 p q) = if 0 < (i 1).val then v (ix2 p q) else 0 := by
  pointwise [k0_pay2]
  have h : (i 1).val < 4 := (i 1).isLt
  have h2 : ∀ n : Fin 4, Scalar.cmpi CmpIPredicate.sgt (BitVec.ofNat 32 n.val) 0#32 = if 0 < n.val then 1#1 else 0#1 := by decide
  rw [h2 ⟨_, h⟩]
  unfold Scalar.select
  by_cases h3 : 0 < (i 1).val
  · rw [if_pos h3, if_pos h3]; rfl
  · rw [if_neg h3, if_neg h3]; rfl

theorem pay3_at (v : Vec Ideal S512x1024 .bf16) (p : Fin 512) (q : Fin 1024) : k0_pay3 v (ix2 p q) = v (ix2 p q) := by
  pointwise [k0_pay3]

/-- The position inside its batch entry of row `p` of tile `i`. -/
theorem pay4_at (i : grid0.Coords) (p : Fin 512) : k0_pay4 i (ix2 p 0) = BitVec.ofNat 32 ((i 1).val * 512 + p.val) := by
  pointwise [k0_pay4]
  show BitVec.ofNat 32 (i 1).val * BitVec.ofNat 32 512 + BitVec.ofNat 32 p.val = _
  rw [← BitVec.ofNat_mul, ← BitVec.ofNat_add]

theorem cnt2 : ∀ s : Fin 2048, (IntOp.minsi (IntOp.addi (BitVec.ofNat 32 s.val) 1#32) 2#32).toInt = ((min (s.val + 1) 2 : ℕ) : ℤ) := by
  decide +kernel

theorem cnt4 : ∀ s : Fin 2048, (IntOp.minsi (IntOp.addi (BitVec.ofNat 32 s.val) 1#32) 4#32).toInt = ((min (s.val + 1) 4 : ℕ) : ℤ) := by
  decide +kernel

theorem cnt8 : ∀ s : Fin 2048, (IntOp.minsi (IntOp.addi (BitVec.ofNat 32 s.val) 1#32) 8#32).toInt = ((min (s.val + 1) 8 : ℕ) : ℤ) := by
  decide +kernel

theorem cnt16 : ∀ s : Fin 2048, (IntOp.minsi (IntOp.addi (BitVec.ofNat 32 s.val) 1#32) 16#32).toInt = ((min (s.val + 1) 16 : ℕ) : ℤ) := by
  decide +kernel

/-- The reciprocal of the number of positions in a window of `w` that ends at position `s`. -/
def rcp (w s : ℕ) : EReal := ((1 / ((min (s + 1) w : ℕ) : ℝ) : ℝ) : EReal)

theorem div_count (x : EReal) (b : BitVec 32) (w s : ℕ) (hw : 0 < w) (h : b.toInt = ((min (s + 1) w : ℕ) : ℤ)) :
    Ideal.div x (FloatOps.sitofp (F := Ideal) FTy.f32 b) = x * rcp w s := by
  show Ideal.div x ((b.toInt : ℝ) : EReal) = _
  rw [h, Int.cast_natCast, Ideal.div_coe (by
    have : 0 < min (s + 1) w := by omega
    exact_mod_cast this.ne')]
  rfl

theorem pay5_at (i : grid0.Coords) (v0 : Vec Ideal S512x256 .f32) (v1 : Vec Ideal S512x256 .f32) (v2 : Vec Ideal S512x256 .f32) (p : Fin 512) (q : Fin 256) :
    k0_pay5 i v0 v1 v2 (ix2 p q) = (v0 (ix2 p q) + v1 (ix2 p q)) * rcp 2 ((i 1).val * 512 + p.val) - v2 (ix2 p q) := by
  pointwise [k0_pay5]
  have h : (i 1).val < 4 := (i 1).isLt
  rw [pay4_at, div_count 1 _ 2 ((i 1).val * 512 + p.val) (by omega) (cnt2 ⟨_, by omega⟩), one_mul]

theorem pay6_at (x : FVec Ideal S512x256 .bf16) (w : Vec Ideal S1x256x256 .bf16) (s : Vec Ideal S1x256 .f32) (p : Fin 512) (q : Fin 256) :
    k0_pay6 x w s (ix2 p q) = (∑ k : Fin 256, x (ix2 p k) * w (ix3 0 k q)) * s (ix2 0 q) := by
  pointwise [k0_pay6]

theorem pay7_at (i : grid0.Coords) (v0 : Vec Ideal S512x256 .f32) (v1 : Vec Ideal S512x256 .f32) (v2 : Vec Ideal S512x256 .f32) (v3 : Vec Ideal S512x256 .f32) (v4 : Vec Ideal S512x256 .f32) (w : Vec Ideal S1x256x256 .bf16) (s : Vec Ideal S1x256 .f32) (p : Fin 512) (q : Fin 256) :
    k0_pay7 (k0_pay4 i) v0 v1 v2 v3 v4 w s (ix2 p q) = (∑ k : Fin 256, ((v0 (ix2 p k) + v1 (ix2 p k) + v2 (ix2 p k) + v3 (ix2 p k)) * rcp 4 ((i 1).val * 512 + p.val)
      - v4 (ix2 p k)) * w (ix3 0 k q)) * s (ix2 0 q) := by
  have h : (i 1).val < 4 := (i 1).isLt
  pointwise [k0_pay7]
  rw [pay4_at, div_count 1 _ 4 ((i 1).val * 512 + p.val) (by omega) (cnt4 ⟨_, by omega⟩), one_mul]

theorem pay8_at (x : FVec Ideal S512x256 .f32) (p : Fin 512) (q : Fin 256) : k0_pay8 x (ix2 p q) = x (ix2 p q) := by
  pointwise [k0_pay8]

theorem pay9_at (i : grid0.Coords) (v0 : Vec Ideal S512x256 .f32) (v1 : Vec Ideal S512x256 .f32) (v2 : Vec Ideal S512x256 .f32) (v3 : Vec Ideal S512x256 .f32) (v4 : Vec Ideal S512x256 .f32) (v5 : Vec Ideal S512x256 .f32) (v6 : Vec Ideal S512x256 .f32) (v7 : Vec Ideal S512x256 .f32) (v8 : Vec Ideal S512x256 .f32) (p : Fin 512) (q : Fin 256) :
    k0_pay9 (k0_pay4 i) v0 v1 v2 v3 v4 v5 v6 v7 v8 (ix2 p q) = (v0 (ix2 p q) + v1 (ix2 p q) + v2 (ix2 p q) + v3 (ix2 p q) + v4 (ix2 p q) + v5 (ix2 p q) + v6 (ix2 p q) + v7 (ix2 p q)) * rcp 8 ((i 1).val * 512 + p.val)
      - v8 (ix2 p q) := by
  have h : (i 1).val < 4 := (i 1).isLt
  pointwise [k0_pay9]
  rw [pay4_at, div_count 1 _ 8 ((i 1).val * 512 + p.val) (by omega) (cnt8 ⟨_, by omega⟩), one_mul]

theorem pay11_at (x : FVec Ideal S512x256 .bf16) (w : Vec Ideal S1x256x256 .bf16) (s : Vec Ideal S1x256 .f32) (p : Fin 512) (q : Fin 256) :
    k0_pay11 x (k0_pay10 w) (constant S512x256 FTy.f32 0#32) s (ix2 p q) = (∑ k : Fin 256, x (ix2 p k) * w (ix3 0 k q)) * s (ix2 0 q) := by
  pointwise [k0_pay11, k0_pay10]

theorem pay13_at (i : grid0.Coords) (v0 : Vec Ideal S512x256 .f32) (v1 : Vec Ideal S512x256 .f32) (v2 : Vec Ideal S512x256 .f32) (v3 : Vec Ideal S512x256 .f32) (v4 : Vec Ideal S512x256 .f32) (v5 : Vec Ideal S512x256 .f32) (v6 : Vec Ideal S512x256 .f32) (v7 : Vec Ideal S512x256 .f32) (v8 : Vec Ideal S512x256 .f32) (v9 : Vec Ideal S512x256 .f32) (v10 : Vec Ideal S512x256 .f32) (v11 : Vec Ideal S512x256 .f32) (v12 : Vec Ideal S512x256 .f32) (v13 : Vec Ideal S512x256 .f32) (v14 : Vec Ideal S512x256 .f32) (v15 : Vec Ideal S512x256 .f32) (v16 : Vec Ideal S512x256 .f32) (w : Vec Ideal S1x256x256 .bf16) (s : Vec Ideal S1x256 .f32) (p : Fin 512) (q : Fin 256) :
    k0_pay13 (k0_pay4 i) (k0_pay12 v0 v1 v2 v3 v4 v5 v6 v7 v8 v9 v10 v11) v12 v13 v14 v15 v16 w s (ix2 p q)
      = (∑ k : Fin 256, ((v0 (ix2 p k) + v1 (ix2 p k) + v2 (ix2 p k) + v3 (ix2 p k) + v4 (ix2 p k) + v5 (ix2 p k) + v6 (ix2 p k) + v7 (ix2 p k) + v8 (ix2 p k) + v9 (ix2 p k) + v10 (ix2 p k) + v11 (ix2 p k) + v12 (ix2 p k) + v13 (ix2 p k) + v14 (ix2 p k) + v15 (ix2 p k)) * rcp 16 ((i 1).val * 512 + p.val)
      - v16 (ix2 p k)) * w (ix3 0 k q)) * s (ix2 0 q) := by
  have h : (i 1).val < 4 := (i 1).isLt
  pointwise [k0_pay13, k0_pay12]
  rw [pay4_at, div_count 1 _ 16 ((i 1).val * 512 + p.val) (by omega) (cnt16 ⟨_, by omega⟩), one_mul]

theorem idx : ∀ t : Fin cfg0.N, win0_0.index t = ![t.val, 0] ∧ win0_1.index t = ![t.val * 32 - 1, 0] ∧ win0_2.index t = ![0, 0, 0]
    ∧ win0_3.index t = ![0, 0] ∧ win0_4.index t = ![0, 0] ∧ win0_5.index t = ![t.val, 0] :=
  (by decide +kernel : ∀ t : Fin grid0.N, _)

theorem coord : ∀ t : Fin cfg0.N, (grid0.coords t 1).val = t.val % 4 :=
  (by decide +kernel : ∀ t : Fin grid0.N, _)

/-- Channel `q` of the pooling group's activations at position `i` of batch entry `b`. -/
def U (Z : FVec Ideal S8192x1024 .bf16) (b : Fin 4) (q : Fin 1024) (i : ℕ) : EReal :=
  if h : i < 2048 then Z (ix2 ⟨b.val * 2048 + i, by omega⟩ q) else 0

/-- The scratch of a tile from row 16 on: the tile's own rows. -/
theorem ext_hi (c0 : Vec Ideal S512x1024 .bf16) (c1 : Vec Ideal S16x1024 .bf16) (i : grid0.Coords) (y : S528x1024.Idx) (p : Fin 512)
    (q : Fin 1024) (h0 : (y 0).val = 16 + p.val) (h1 : (y 1).val = q.val) :
    View.canon [⟨Rect.unit ![16, 0] ![512, 1024] inb_S528x1024_S512x1024_16_0, k0_pay3 c0⟩, ⟨Rect.unit ![0, 0] ![16, 1024] inb_S528x1024_S16x1024_0_0, k0_pay2 i c1⟩] y = c0 (ix2 p q) := by
  have e : y = (Rect.unit ![16, 0] ![512, 1024] inb_S528x1024_S512x1024_16_0).emb (ix2 p q : S512x1024.Idx) := by
    funext a
    apply Fin.ext
    match a with
    | ⟨0, _⟩ => refine h0.trans ?_; show 16 + p.val = 16 + 1 * p.val; omega
    | ⟨1, _⟩ => refine h1.trans ?_; show q.val = 0 + 1 * q.val; omega
  rw [e, View.canon_cons_emb, pay3_at]

/-- The first 16 rows of the scratch: the rows before the tile, zero in the first tile of a batch entry. -/
theorem ext_lo (c0 : Vec Ideal S512x1024 .bf16) (c1 : Vec Ideal S16x1024 .bf16) (i : grid0.Coords) (y : S528x1024.Idx) (p : Fin 16)
    (q : Fin 1024) (h0 : (y 0).val = p.val) (h1 : (y 1).val = q.val) :
    View.canon [⟨Rect.unit ![16, 0] ![512, 1024] inb_S528x1024_S512x1024_16_0, k0_pay3 c0⟩, ⟨Rect.unit ![0, 0] ![16, 1024] inb_S528x1024_S16x1024_0_0, k0_pay2 i c1⟩] y = if 0 < (i 1).val then c1 (ix2 p q) else 0 := by
  have e : y = (Rect.unit ![0, 0] ![16, 1024] inb_S528x1024_S16x1024_0_0).emb (ix2 p q : S16x1024.Idx) := by
    funext a
    apply Fin.ext
    match a with
    | ⟨0, _⟩ => refine h0.trans ?_; show p.val = 0 + 1 * p.val; omega
    | ⟨1, _⟩ => refine h1.trans ?_; show q.val = 0 + 1 * q.val; omega
  rw [View.canon_cons_of_not_mem]
  · rw [e, View.canon_cons_emb, pay2_at]
  · intro hm
    rw [Rect.mem_set_unit] at hm
    have h2 : 16 ≤ (y 0).val := (hm 0).1
    have h3 := p.isLt
    omega

/-- A load of 512 rows of the scratch that begins `j` rows before the tile's own rows: the positions `j` earlier, zero before the first. -/
theorem ld_ext (c : Dev nD) (t : Fin cfg0.N) (o j : ℕ) (hoj : o + j = 16) (q0 : ℕ)
    (inb : ∀ a, (![o, q0] : Fin 2 → ℕ) a + (![512, 256] : Fin 2 → ℕ) a ≤ S528x1024.size a) (p : Fin 512) (k : Fin 256) (q : Fin 1024)
    (hq : q.val = q0 + k.val) (b : Fin 4) (hb : b.val = t.val / 4) (s : ℕ) (hs : s = t.val % 4 * 512 + p.val) :
    (View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩]
      (Rect.unit (s := S528x1024) ![o, q0] ![512, 256] inb).toLoadRect (ix2 p k : S512x256.Idx)
      = if j ≤ s then U (m ((c : Thread nD τ).loc main_arg0)) b q (s - j) else 0 := by
  have hN : t.val < 16 := lt_of_lt_of_eq t.isLt N_0
  have hp := p.isLt
  rw [View.readCov_eq_canon']
  show View.canon _ ((Rect.unit (s := S528x1024) ![o, q0] ![512, 256] inb).toLoadRect.idx (ix2 p k : S512x256.Idx)) = _
  have h0 : ((Rect.unit (s := S528x1024) ![o, q0] ![512, 256] inb).toLoadRect.idx (ix2 p k : S512x256.Idx) (0 : Fin 2)).val = o + p.val := by
    show o + 1 * p.val = _; omega
  have h1 : ((Rect.unit (s := S528x1024) ![o, q0] ![512, 256] inb).toLoadRect.idx (ix2 p k : S512x256.Idx) (1 : Fin 2)).val = q.val := by
    show q0 + 1 * k.val = _; omega
  by_cases h : 16 ≤ o + p.val
  · refine Eq.trans (ext_hi _ _ _ _ ⟨o + p.val - 16, by omega⟩ q (by rw [h0]; show _ = 16 + (o + p.val - 16); omega) h1) ?_
    rw [if_pos (by omega)]
    unfold U
    rw [dif_pos (by omega)]
    blk_point [iblk, V, idx t]
  · refine Eq.trans (ext_lo _ _ _ _ ⟨o + p.val, by omega⟩ q h0 h1) ?_
    rw [coord t]
    by_cases h2 : 0 < t.val % 4
    · rw [if_pos h2, if_pos (by omega)]
      unfold U
      rw [dif_pos (by omega)]
      blk_point [iblk, V, idx t]
    · rw [if_neg h2, if_neg (by omega)]

/-- The mean over the window of `w` positions that ends at position `s`, less the position's own value. -/
def pl (Z : FVec Ideal S8192x1024 .bf16) (w : ℕ) (b : Fin 4) (q : Fin 1024) (s : ℕ) : EReal :=
  (∑ j ∈ Finset.range w, if j ≤ s then U Z b q (s - j) else 0) * rcp w s - U Z b q s

/-- The mixed channels of group `g`: a row of pooled values through the group's weights, times the scale. -/
def mix (Z : FVec Ideal S8192x1024 .bf16) (W : FVec Ideal S1x4x256x256 .f32) (sc : FVec Ideal S1x1024 .f32) (r : Fin 8192) (g : Fin 4) (d : Fin 256) : EReal :=
  (∑ k : Fin 256, pl Z (2 ^ (g.val + 1)) ⟨r.val / 2048, by omega⟩ ⟨256 * g.val + k.val, by omega⟩ (r.val % 2048) * W (ix4 0 g k d)) * sc (ix2 0 ⟨256 * g.val + d.val, by omega⟩)

theorem w_at' (x : FVec Ideal S1x4x256x256 .f32) (g : Fin 4) (k d : Fin 256) : (truncf (F := Ideal) .bf16 (shapeCast S4x256x256 x shapeCasts_S1x4x256x256_S4x256x256) bitsLt_bf16_f32) (ix3 g k d : S4x256x256.Idx) = x (ix4 0 g k d) := by
  pointwise []

theorem w_at (c : Dev nD) (g : Fin 4) (k d : Fin 256) : V m c main_v1 (ix3 g k d : S4x256x256.Idx) = m ((c : Thread nD τ).loc main_arg1) (ix4 0 g k d) := by
  have e : V m c main_v1 = truncf (F := Ideal) .bf16 (shapeCast S4x256x256 (m ((c : Thread nD τ).loc main_arg1)) shapeCasts_S1x4x256x256_S4x256x256) bitsLt_bf16_f32 := by
    unfold V
    after_results_simp
    all_goals rfl
  rw [e]
  exact w_at' _ g k d

theorem s_at' (x : FVec Ideal S1x1024 .f32) (d : Fin 1024) : (broadcastInDim S1x1024 ![1] bcast_S1024_S1x1024_1 (shapeCast S1024 x shapeCasts_S1x1024_S1024)) (ix2 0 d : S1x1024.Idx) = x (ix2 0 d) := by
  pointwise []

theorem s_at (c : Dev nD) (d : Fin 1024) : V m c main_v3 (ix2 0 d : S1x1024.Idx) = m ((c : Thread nD τ).loc main_arg2) (ix2 0 d) := by
  have e : V m c main_v3 = broadcastInDim S1x1024 ![1] bcast_S1024_S1x1024_1 (shapeCast S1024 (m ((c : Thread nD τ).loc main_arg2)) shapeCasts_S1x1024_S1024) := by
    unfold V
    after_results_simp
    all_goals rfl
  rw [e]
  exact s_at' _ d

theorem g_at' (x : FVec Ideal S1x1024 .f32) (d : Fin 1024) : (broadcastInDim S1x1024 ![1] bcast_S1024_S1x1024_1 (shapeCast S1024 x shapeCasts_S1x1024_S1024)) (ix2 0 d : S1x1024.Idx) = x (ix2 0 d) := by
  pointwise []

theorem g_at (c : Dev nD) (d : Fin 1024) : V m c main_v5 (ix2 0 d : S1x1024.Idx) = m ((c : Thread nD τ).loc main_arg3) (ix2 0 d) := by
  have e : V m c main_v5 = broadcastInDim S1x1024 ![1] bcast_S1024_S1x1024_1 (shapeCast S1024 (m ((c : Thread nD τ).loc main_arg3)) shapeCasts_S1x1024_S1024) := by
    unfold V
    after_results_simp
    all_goals rfl
  rw [e]
  exact g_at' _ d

theorem rd_w0 (t : Fin cfg0.N) (A : FVec Ideal S4x256x256 .bf16) (k d : Fin 256) :
    View.ld (View.read (Elt Ideal) ((cfg0.win 2).blk t).view A) (Rect.unit ![0, 0, 0] ![1, 256, 256] inb_S4x256x256_S1x256x256_0_0_0) (ix3 0 k d : S1x256x256.Idx)
      = A (ix3 0 k d) := by
  refine congrArg A (funext fun a => Fin.ext ?_)
  have h := (idx t).2.2.1
  match a with
  | ⟨0, _⟩ => show win0_2.index t 0 * 4 + 1 * (0 + 1 * 0) = 0; rw [h]; rfl
  | ⟨1, _⟩ => show win0_2.index t 1 * 256 + 1 * (0 + 1 * k.val) = k.val; rw [h]; show 0 * 256 + 1 * (0 + 1 * k.val) = k.val; omega
  | ⟨2, _⟩ => show win0_2.index t 2 * 256 + 1 * (0 + 1 * d.val) = d.val; rw [h]; show 0 * 256 + 1 * (0 + 1 * d.val) = d.val; omega

theorem rd_s0 (t : Fin cfg0.N) (A : FVec Ideal S1x1024 .f32) (d : Fin 256) :
    View.ld (View.read (Elt Ideal) ((cfg0.win 3).blk t).view A) (Rect.unit ![0, 0] ![1, 256] inb_S1x1024_S1x256_0_0) (ix2 0 d : S1x256.Idx)
      = A (ix2 0 ⟨256 * 0 + d.val, by omega⟩) := by
  refine congrArg A (funext fun a => Fin.ext ?_)
  have h := (idx t).2.2.2.1
  match a with
  | ⟨0, _⟩ => show win0_3.index t 0 * 1 + 1 * (0 + 1 * 0) = 0; rw [h]; rfl
  | ⟨1, _⟩ => show win0_3.index t 1 * 1024 + 1 * (0 + 1 * d.val) = 256 * 0 + d.val; rw [h]; show 0 * 1024 + 1 * (0 + 1 * d.val) = 256 * 0 + d.val; omega

theorem rd_w1 (t : Fin cfg0.N) (A : FVec Ideal S4x256x256 .bf16) (k d : Fin 256) :
    View.ld (View.read (Elt Ideal) ((cfg0.win 2).blk t).view A) (Rect.unit ![1, 0, 0] ![1, 256, 256] inb_S4x256x256_S1x256x256_1_0_0) (ix3 0 k d : S1x256x256.Idx)
      = A (ix3 1 k d) := by
  refine congrArg A (funext fun a => Fin.ext ?_)
  have h := (idx t).2.2.1
  match a with
  | ⟨0, _⟩ => show win0_2.index t 0 * 4 + 1 * (1 + 1 * 0) = 1; rw [h]; rfl
  | ⟨1, _⟩ => show win0_2.index t 1 * 256 + 1 * (0 + 1 * k.val) = k.val; rw [h]; show 0 * 256 + 1 * (0 + 1 * k.val) = k.val; omega
  | ⟨2, _⟩ => show win0_2.index t 2 * 256 + 1 * (0 + 1 * d.val) = d.val; rw [h]; show 0 * 256 + 1 * (0 + 1 * d.val) = d.val; omega

theorem rd_s1 (t : Fin cfg0.N) (A : FVec Ideal S1x1024 .f32) (d : Fin 256) :
    View.ld (View.read (Elt Ideal) ((cfg0.win 3).blk t).view A) (Rect.unit ![0, 256] ![1, 256] inb_S1x1024_S1x256_0_256) (ix2 0 d : S1x256.Idx)
      = A (ix2 0 ⟨256 * 1 + d.val, by omega⟩) := by
  refine congrArg A (funext fun a => Fin.ext ?_)
  have h := (idx t).2.2.2.1
  match a with
  | ⟨0, _⟩ => show win0_3.index t 0 * 1 + 1 * (0 + 1 * 0) = 0; rw [h]; rfl
  | ⟨1, _⟩ => show win0_3.index t 1 * 1024 + 1 * (256 + 1 * d.val) = 256 * 1 + d.val; rw [h]; show 0 * 1024 + 1 * (256 + 1 * d.val) = 256 * 1 + d.val; omega

theorem rd_w2 (t : Fin cfg0.N) (A : FVec Ideal S4x256x256 .bf16) (k d : Fin 256) :
    View.ld (View.read (Elt Ideal) ((cfg0.win 2).blk t).view A) (Rect.unit ![2, 0, 0] ![1, 256, 256] inb_S4x256x256_S1x256x256_2_0_0) (ix3 0 k d : S1x256x256.Idx)
      = A (ix3 2 k d) := by
  refine congrArg A (funext fun a => Fin.ext ?_)
  have h := (idx t).2.2.1
  match a with
  | ⟨0, _⟩ => show win0_2.index t 0 * 4 + 1 * (2 + 1 * 0) = 2; rw [h]; rfl
  | ⟨1, _⟩ => show win0_2.index t 1 * 256 + 1 * (0 + 1 * k.val) = k.val; rw [h]; show 0 * 256 + 1 * (0 + 1 * k.val) = k.val; omega
  | ⟨2, _⟩ => show win0_2.index t 2 * 256 + 1 * (0 + 1 * d.val) = d.val; rw [h]; show 0 * 256 + 1 * (0 + 1 * d.val) = d.val; omega

theorem rd_s2 (t : Fin cfg0.N) (A : FVec Ideal S1x1024 .f32) (d : Fin 256) :
    View.ld (View.read (Elt Ideal) ((cfg0.win 3).blk t).view A) (Rect.unit ![0, 512] ![1, 256] inb_S1x1024_S1x256_0_512) (ix2 0 d : S1x256.Idx)
      = A (ix2 0 ⟨256 * 2 + d.val, by omega⟩) := by
  refine congrArg A (funext fun a => Fin.ext ?_)
  have h := (idx t).2.2.2.1
  match a with
  | ⟨0, _⟩ => show win0_3.index t 0 * 1 + 1 * (0 + 1 * 0) = 0; rw [h]; rfl
  | ⟨1, _⟩ => show win0_3.index t 1 * 1024 + 1 * (512 + 1 * d.val) = 256 * 2 + d.val; rw [h]; show 0 * 1024 + 1 * (512 + 1 * d.val) = 256 * 2 + d.val; omega

theorem rd_w3 (t : Fin cfg0.N) (A : FVec Ideal S4x256x256 .bf16) (k d : Fin 256) :
    View.ld (View.read (Elt Ideal) ((cfg0.win 2).blk t).view A) (Rect.unit ![3, 0, 0] ![1, 256, 256] inb_S4x256x256_S1x256x256_3_0_0) (ix3 0 k d : S1x256x256.Idx)
      = A (ix3 3 k d) := by
  refine congrArg A (funext fun a => Fin.ext ?_)
  have h := (idx t).2.2.1
  match a with
  | ⟨0, _⟩ => show win0_2.index t 0 * 4 + 1 * (3 + 1 * 0) = 3; rw [h]; rfl
  | ⟨1, _⟩ => show win0_2.index t 1 * 256 + 1 * (0 + 1 * k.val) = k.val; rw [h]; show 0 * 256 + 1 * (0 + 1 * k.val) = k.val; omega
  | ⟨2, _⟩ => show win0_2.index t 2 * 256 + 1 * (0 + 1 * d.val) = d.val; rw [h]; show 0 * 256 + 1 * (0 + 1 * d.val) = d.val; omega

theorem rd_s3 (t : Fin cfg0.N) (A : FVec Ideal S1x1024 .f32) (d : Fin 256) :
    View.ld (View.read (Elt Ideal) ((cfg0.win 3).blk t).view A) (Rect.unit ![0, 768] ![1, 256] inb_S1x1024_S1x256_0_768) (ix2 0 d : S1x256.Idx)
      = A (ix2 0 ⟨256 * 3 + d.val, by omega⟩) := by
  refine congrArg A (funext fun a => Fin.ext ?_)
  have h := (idx t).2.2.2.1
  match a with
  | ⟨0, _⟩ => show win0_3.index t 0 * 1 + 1 * (0 + 1 * 0) = 0; rw [h]; rfl
  | ⟨1, _⟩ => show win0_3.index t 1 * 1024 + 1 * (768 + 1 * d.val) = 256 * 3 + d.val; rw [h]; show 0 * 1024 + 1 * (768 + 1 * d.val) = 256 * 3 + d.val; omega

theorem mix0_at (i : grid0.Coords) (v0 : Vec Ideal S512x256 .f32) (v1 : Vec Ideal S512x256 .f32) (v2 : Vec Ideal S512x256 .f32) (w : Vec Ideal S1x256x256 .bf16) (s : Vec Ideal S1x256 .f32)
    (Z : FVec Ideal S8192x1024 .bf16) (W : FVec Ideal S1x4x256x256 .f32) (sc : FVec Ideal S1x1024 .f32) (p : Fin 512) (d : Fin 256) (r : Fin 8192)
    (hi : (i 1).val * 512 + p.val = r.val % 2048) (h0 : ∀ k : Fin 256, v0 (ix2 p k) = if 0 ≤ r.val % 2048 then U Z ⟨r.val / 2048, by omega⟩ ⟨256 * 0 + k.val, by omega⟩ (r.val % 2048 - 0) else 0) (h1 : ∀ k : Fin 256, v1 (ix2 p k) = if 1 ≤ r.val % 2048 then U Z ⟨r.val / 2048, by omega⟩ ⟨256 * 0 + k.val, by omega⟩ (r.val % 2048 - 1) else 0) (h2 : ∀ k : Fin 256, v2 (ix2 p k) = if 0 ≤ r.val % 2048 then U Z ⟨r.val / 2048, by omega⟩ ⟨256 * 0 + k.val, by omega⟩ (r.val % 2048 - 0) else 0)
    (hw : ∀ k : Fin 256, w (ix3 0 k d) = W (ix4 0 0 k d)) (hsc : s (ix2 0 d) = sc (ix2 0 ⟨256 * 0 + d.val, by omega⟩)) :
    k0_pay6 (k0_pay5 i v0 v1 v2) w s (ix2 p d) = mix Z W sc r 0 d := by
  simp only [pay6_at, pay5_at, h0, h1, h2, hw, hsc, hi]
  unfold mix pl
  refine congrArg₂ (· * ·) (Finset.sum_congr rfl fun k _ => congrArg₂ (· * ·) (congrArg₂ (· - ·) (congrArg₂ (· * ·) ?_ rfl) ?_) rfl) rfl
  · show _ = ∑ j ∈ Finset.range 2, _
    simp only [Finset.sum_range_succ, Finset.sum_range_zero, zero_add]
    rfl
  · exact if_pos (Nat.zero_le _)

theorem piece0 (c : Dev nD) (t : Fin cfg0.N) (p : Fin 512) (d : Fin 256) (r : Fin 8192) (hr : r.val = t.val * 512 + p.val) :
    k0_pay6 (k0_pay5 (grid0.coords t) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 0] ![512, 256] inb_S528x1024_S512x256_16_0).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![15, 0] ![512, 256] inb_S528x1024_S512x256_15_0).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 0] ![512, 256] inb_S528x1024_S512x256_16_0).toLoadRect)) (View.ld (iblk m c 2 t) (Rect.unit ![0, 0, 0] ![1, 256, 256] inb_S4x256x256_S1x256x256_0_0_0)) (View.ld (iblk m c 3 t) (Rect.unit ![0, 0] ![1, 256] inb_S1x1024_S1x256_0_0)) (ix2 p d)
      = mix (m ((c : Thread nD τ).loc main_arg0)) (m ((c : Thread nD τ).loc main_arg1)) (m ((c : Thread nD τ).loc main_arg2)) r 0 d := by
  have hN : t.val < 16 := lt_of_lt_of_eq t.isLt N_0
  have hs : r.val % 2048 = t.val % 4 * 512 + p.val := by omega
  have hb : r.val / 2048 = t.val / 4 := by omega
  refine mix0_at (grid0.coords t) _ _ _ _ _  _ _ _ p d r (by rw [coord t, hs]) (fun k => ld_ext m c t 16 0 rfl 0 _ p k _ rfl _ hb _ hs) (fun k => ld_ext m c t 15 1 rfl 0 _ p k _ rfl _ hb _ hs) (fun k => ld_ext m c t 16 0 rfl 0 _ p k _ rfl _ hb _ hs) (fun k => ?_) ?_
  · exact (rd_w0 t (V m c main_v1) k d).trans (w_at m c 0 k d)
  · exact (rd_s0 t (V m c main_v3) d).trans (s_at m c _)

end Cert.PoolIdeal.Val

end
-- ==== Proof.PoolPieces.lean ====
/- Pooling call: the columns of one group of a tile are the group's mixed channels. -/
module

public import proofs.«01_k».proof.Proof.PoolParts
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Val
open Cert.PoolIdeal Cert.PoolIdeal.Gen
variable (m : (ℓ : Loc nD τ sig) → Buf (Elt Ideal) ℓ)

theorem mix1_at (i : grid0.Coords) (v0 : Vec Ideal S512x256 .f32) (v1 : Vec Ideal S512x256 .f32) (v2 : Vec Ideal S512x256 .f32) (v3 : Vec Ideal S512x256 .f32) (v4 : Vec Ideal S512x256 .f32) (w : Vec Ideal S1x256x256 .bf16) (s : Vec Ideal S1x256 .f32)
    (Z : FVec Ideal S8192x1024 .bf16) (W : FVec Ideal S1x4x256x256 .f32) (sc : FVec Ideal S1x1024 .f32) (p : Fin 512) (d : Fin 256) (r : Fin 8192)
    (hi : (i 1).val * 512 + p.val = r.val % 2048) (h0 : ∀ k : Fin 256, v0 (ix2 p k) = if 0 ≤ r.val % 2048 then U Z ⟨r.val / 2048, by omega⟩ ⟨256 * 1 + k.val, by omega⟩ (r.val % 2048 - 0) else 0) (h1 : ∀ k : Fin 256, v1 (ix2 p k) = if 1 ≤ r.val % 2048 then U Z ⟨r.val / 2048, by omega⟩ ⟨256 * 1 + k.val, by omega⟩ (r.val % 2048 - 1) else 0) (h2 : ∀ k : Fin 256, v2 (ix2 p k) = if 2 ≤ r.val % 2048 then U Z ⟨r.val / 2048, by omega⟩ ⟨256 * 1 + k.val, by omega⟩ (r.val % 2048 - 2) else 0) (h3 : ∀ k : Fin 256, v3 (ix2 p k) = if 3 ≤ r.val % 2048 then U Z ⟨r.val / 2048, by omega⟩ ⟨256 * 1 + k.val, by omega⟩ (r.val % 2048 - 3) else 0) (h4 : ∀ k : Fin 256, v4 (ix2 p k) = if 0 ≤ r.val % 2048 then U Z ⟨r.val / 2048, by omega⟩ ⟨256 * 1 + k.val, by omega⟩ (r.val % 2048 - 0) else 0)
    (hw : ∀ k : Fin 256, w (ix3 0 k d) = W (ix4 0 1 k d)) (hsc : s (ix2 0 d) = sc (ix2 0 ⟨256 * 1 + d.val, by omega⟩)) :
    k0_pay8 (k0_pay7 (k0_pay4 i) v0 v1 v2 v3 v4 w s) (ix2 p d) = mix Z W sc r 1 d := by
  simp only [pay8_at, pay7_at, h0, h1, h2, h3, h4, hw, hsc, hi]
  unfold mix pl
  refine congrArg₂ (· * ·) (Finset.sum_congr rfl fun k _ => congrArg₂ (· * ·) (congrArg₂ (· - ·) (congrArg₂ (· * ·) ?_ rfl) ?_) rfl) rfl
  · show _ = ∑ j ∈ Finset.range 4, _
    simp only [Finset.sum_range_succ, Finset.sum_range_zero, zero_add]
    rfl
  · exact if_pos (Nat.zero_le _)

theorem piece1 (c : Dev nD) (t : Fin cfg0.N) (p : Fin 512) (d : Fin 256) (r : Fin 8192) (hr : r.val = t.val * 512 + p.val) :
    k0_pay8 (k0_pay7 (k0_pay4 (grid0.coords t)) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 256] ![512, 256] inb_S528x1024_S512x256_16_256).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![15, 256] ![512, 256] inb_S528x1024_S512x256_15_256).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![14, 256] ![512, 256] inb_S528x1024_S512x256_14_256).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![13, 256] ![512, 256] inb_S528x1024_S512x256_13_256).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 256] ![512, 256] inb_S528x1024_S512x256_16_256).toLoadRect) (View.ld (iblk m c 2 t) (Rect.unit ![1, 0, 0] ![1, 256, 256] inb_S4x256x256_S1x256x256_1_0_0)) (View.ld (iblk m c 3 t) (Rect.unit ![0, 256] ![1, 256] inb_S1x1024_S1x256_0_256))) (ix2 p d)
      = mix (m ((c : Thread nD τ).loc main_arg0)) (m ((c : Thread nD τ).loc main_arg1)) (m ((c : Thread nD τ).loc main_arg2)) r 1 d := by
  have hN : t.val < 16 := lt_of_lt_of_eq t.isLt N_0
  have hs : r.val % 2048 = t.val % 4 * 512 + p.val := by omega
  have hb : r.val / 2048 = t.val / 4 := by omega
  refine mix1_at (grid0.coords t) _ _ _ _ _ _ _  _ _ _ p d r (by rw [coord t, hs]) (fun k => ld_ext m c t 16 0 rfl 256 _ p k _ rfl _ hb _ hs) (fun k => ld_ext m c t 15 1 rfl 256 _ p k _ rfl _ hb _ hs) (fun k => ld_ext m c t 14 2 rfl 256 _ p k _ rfl _ hb _ hs) (fun k => ld_ext m c t 13 3 rfl 256 _ p k _ rfl _ hb _ hs) (fun k => ld_ext m c t 16 0 rfl 256 _ p k _ rfl _ hb _ hs) (fun k => ?_) ?_
  · exact (rd_w1 t (V m c main_v1) k d).trans (w_at m c 1 k d)
  · exact (rd_s1 t (V m c main_v3) d).trans (s_at m c _)

theorem mix2_at (i : grid0.Coords) (v0 : Vec Ideal S512x256 .f32) (v1 : Vec Ideal S512x256 .f32) (v2 : Vec Ideal S512x256 .f32) (v3 : Vec Ideal S512x256 .f32) (v4 : Vec Ideal S512x256 .f32) (v5 : Vec Ideal S512x256 .f32) (v6 : Vec Ideal S512x256 .f32) (v7 : Vec Ideal S512x256 .f32) (v8 : Vec Ideal S512x256 .f32) (w : Vec Ideal S1x256x256 .bf16) (s : Vec Ideal S1x256 .f32)
    (Z : FVec Ideal S8192x1024 .bf16) (W : FVec Ideal S1x4x256x256 .f32) (sc : FVec Ideal S1x1024 .f32) (p : Fin 512) (d : Fin 256) (r : Fin 8192)
    (hi : (i 1).val * 512 + p.val = r.val % 2048) (h0 : ∀ k : Fin 256, v0 (ix2 p k) = if 0 ≤ r.val % 2048 then U Z ⟨r.val / 2048, by omega⟩ ⟨256 * 2 + k.val, by omega⟩ (r.val % 2048 - 0) else 0) (h1 : ∀ k : Fin 256, v1 (ix2 p k) = if 1 ≤ r.val % 2048 then U Z ⟨r.val / 2048, by omega⟩ ⟨256 * 2 + k.val, by omega⟩ (r.val % 2048 - 1) else 0) (h2 : ∀ k : Fin 256, v2 (ix2 p k) = if 2 ≤ r.val % 2048 then U Z ⟨r.val / 2048, by omega⟩ ⟨256 * 2 + k.val, by omega⟩ (r.val % 2048 - 2) else 0) (h3 : ∀ k : Fin 256, v3 (ix2 p k) = if 3 ≤ r.val % 2048 then U Z ⟨r.val / 2048, by omega⟩ ⟨256 * 2 + k.val, by omega⟩ (r.val % 2048 - 3) else 0) (h4 : ∀ k : Fin 256, v4 (ix2 p k) = if 4 ≤ r.val % 2048 then U Z ⟨r.val / 2048, by omega⟩ ⟨256 * 2 + k.val, by omega⟩ (r.val % 2048 - 4) else 0) (h5 : ∀ k : Fin 256, v5 (ix2 p k) = if 5 ≤ r.val % 2048 then U Z ⟨r.val / 2048, by omega⟩ ⟨256 * 2 + k.val, by omega⟩ (r.val % 2048 - 5) else 0) (h6 : ∀ k : Fin 256, v6 (ix2 p k) = if 6 ≤ r.val % 2048 then U Z ⟨r.val / 2048, by omega⟩ ⟨256 * 2 + k.val, by omega⟩ (r.val % 2048 - 6) else 0) (h7 : ∀ k : Fin 256, v7 (ix2 p k) = if 7 ≤ r.val % 2048 then U Z ⟨r.val / 2048, by omega⟩ ⟨256 * 2 + k.val, by omega⟩ (r.val % 2048 - 7) else 0) (h8 : ∀ k : Fin 256, v8 (ix2 p k) = if 0 ≤ r.val % 2048 then U Z ⟨r.val / 2048, by omega⟩ ⟨256 * 2 + k.val, by omega⟩ (r.val % 2048 - 0) else 0)
    (hw : ∀ k : Fin 256, w (ix3 0 k d) = W (ix4 0 2 k d)) (hsc : s (ix2 0 d) = sc (ix2 0 ⟨256 * 2 + d.val, by omega⟩)) :
    k0_pay11 (k0_pay9 (k0_pay4 i) v0 v1 v2 v3 v4 v5 v6 v7 v8) (k0_pay10 w) (constant S512x256 FTy.f32 0#32) s (ix2 p d) = mix Z W sc r 2 d := by
  simp only [pay11_at, pay9_at, h0, h1, h2, h3, h4, h5, h6, h7, h8, hw, hsc, hi]
  unfold mix pl
  refine congrArg₂ (· * ·) (Finset.sum_congr rfl fun k _ => congrArg₂ (· * ·) (congrArg₂ (· - ·) (congrArg₂ (· * ·) ?_ rfl) ?_) rfl) rfl
  · show _ = ∑ j ∈ Finset.range 8, _
    simp only [Finset.sum_range_succ, Finset.sum_range_zero, zero_add]
    rfl
  · exact if_pos (Nat.zero_le _)

theorem piece2 (c : Dev nD) (t : Fin cfg0.N) (p : Fin 512) (d : Fin 256) (r : Fin 8192) (hr : r.val = t.val * 512 + p.val) :
    k0_pay11 (k0_pay9 (k0_pay4 (grid0.coords t)) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 512] ![512, 256] inb_S528x1024_S512x256_16_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![15, 512] ![512, 256] inb_S528x1024_S512x256_15_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![14, 512] ![512, 256] inb_S528x1024_S512x256_14_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![13, 512] ![512, 256] inb_S528x1024_S512x256_13_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![12, 512] ![512, 256] inb_S528x1024_S512x256_12_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![11, 512] ![512, 256] inb_S528x1024_S512x256_11_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![10, 512] ![512, 256] inb_S528x1024_S512x256_10_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![9, 512] ![512, 256] inb_S528x1024_S512x256_9_512).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 512] ![512, 256] inb_S528x1024_S512x256_16_512).toLoadRect)) (k0_pay10 (View.ld (iblk m c 2 t) (Rect.unit ![2, 0, 0] ![1, 256, 256] inb_S4x256x256_S1x256x256_2_0_0))) (constant S512x256 FTy.f32 0#32) (View.ld (iblk m c 3 t) (Rect.unit ![0, 512] ![1, 256] inb_S1x1024_S1x256_0_512)) (ix2 p d)
      = mix (m ((c : Thread nD τ).loc main_arg0)) (m ((c : Thread nD τ).loc main_arg1)) (m ((c : Thread nD τ).loc main_arg2)) r 2 d := by
  have hN : t.val < 16 := lt_of_lt_of_eq t.isLt N_0
  have hs : r.val % 2048 = t.val % 4 * 512 + p.val := by omega
  have hb : r.val / 2048 = t.val / 4 := by omega
  refine mix2_at (grid0.coords t) _ _ _ _ _ _ _ _ _ _ _  _ _ _ p d r (by rw [coord t, hs]) (fun k => ld_ext m c t 16 0 rfl 512 _ p k _ rfl _ hb _ hs) (fun k => ld_ext m c t 15 1 rfl 512 _ p k _ rfl _ hb _ hs) (fun k => ld_ext m c t 14 2 rfl 512 _ p k _ rfl _ hb _ hs) (fun k => ld_ext m c t 13 3 rfl 512 _ p k _ rfl _ hb _ hs) (fun k => ld_ext m c t 12 4 rfl 512 _ p k _ rfl _ hb _ hs) (fun k => ld_ext m c t 11 5 rfl 512 _ p k _ rfl _ hb _ hs) (fun k => ld_ext m c t 10 6 rfl 512 _ p k _ rfl _ hb _ hs) (fun k => ld_ext m c t 9 7 rfl 512 _ p k _ rfl _ hb _ hs) (fun k => ld_ext m c t 16 0 rfl 512 _ p k _ rfl _ hb _ hs) (fun k => ?_) ?_
  · exact (rd_w2 t (V m c main_v1) k d).trans (w_at m c 2 k d)
  · exact (rd_s2 t (V m c main_v3) d).trans (s_at m c _)

/-- The activation `j` positions before row `r`, zero before the batch entry's first position, at channel `k` of group `g`. -/
def sh (Z : FVec Ideal S8192x1024 .bf16) (g : Fin 4) (r : Fin 8192) (k : Fin 256) (j : ℕ) : EReal :=
  if j ≤ r.val % 2048 then U Z ⟨r.val / 2048, by omega⟩ ⟨256 * g.val + k.val, by omega⟩ (r.val % 2048 - j) else 0

theorem mix3_at (i : grid0.Coords) (v0 : Vec Ideal S512x256 .f32) (v1 : Vec Ideal S512x256 .f32) (v2 : Vec Ideal S512x256 .f32) (v3 : Vec Ideal S512x256 .f32) (v4 : Vec Ideal S512x256 .f32) (v5 : Vec Ideal S512x256 .f32) (v6 : Vec Ideal S512x256 .f32) (v7 : Vec Ideal S512x256 .f32) (v8 : Vec Ideal S512x256 .f32) (v9 : Vec Ideal S512x256 .f32) (v10 : Vec Ideal S512x256 .f32) (v11 : Vec Ideal S512x256 .f32) (v12 : Vec Ideal S512x256 .f32) (v13 : Vec Ideal S512x256 .f32) (v14 : Vec Ideal S512x256 .f32) (v15 : Vec Ideal S512x256 .f32) (v16 : Vec Ideal S512x256 .f32) (w : Vec Ideal S1x256x256 .bf16) (s : Vec Ideal S1x256 .f32)
    (Z : FVec Ideal S8192x1024 .bf16) (W : FVec Ideal S1x4x256x256 .f32) (sc : FVec Ideal S1x1024 .f32) (p : Fin 512) (d : Fin 256) (r : Fin 8192)
    (hi : (i 1).val * 512 + p.val = r.val % 2048) (h0 : ∀ k : Fin 256, v0 (ix2 p k) = sh Z 3 r k 0) (h1 : ∀ k : Fin 256, v1 (ix2 p k) = sh Z 3 r k 1) (h2 : ∀ k : Fin 256, v2 (ix2 p k) = sh Z 3 r k 2) (h3 : ∀ k : Fin 256, v3 (ix2 p k) = sh Z 3 r k 3) (h4 : ∀ k : Fin 256, v4 (ix2 p k) = sh Z 3 r k 4) (h5 : ∀ k : Fin 256, v5 (ix2 p k) = sh Z 3 r k 5) (h6 : ∀ k : Fin 256, v6 (ix2 p k) = sh Z 3 r k 6) (h7 : ∀ k : Fin 256, v7 (ix2 p k) = sh Z 3 r k 7) (h8 : ∀ k : Fin 256, v8 (ix2 p k) = sh Z 3 r k 8) (h9 : ∀ k : Fin 256, v9 (ix2 p k) = sh Z 3 r k 9) (h10 : ∀ k : Fin 256, v10 (ix2 p k) = sh Z 3 r k 10) (h11 : ∀ k : Fin 256, v11 (ix2 p k) = sh Z 3 r k 11) (h12 : ∀ k : Fin 256, v12 (ix2 p k) = sh Z 3 r k 12) (h13 : ∀ k : Fin 256, v13 (ix2 p k) = sh Z 3 r k 13) (h14 : ∀ k : Fin 256, v14 (ix2 p k) = sh Z 3 r k 14) (h15 : ∀ k : Fin 256, v15 (ix2 p k) = sh Z 3 r k 15) (h16 : ∀ k : Fin 256, v16 (ix2 p k) = sh Z 3 r k 0)
    (hw : ∀ k : Fin 256, w (ix3 0 k d) = W (ix4 0 3 k d)) (hsc : s (ix2 0 d) = sc (ix2 0 ⟨256 * 3 + d.val, by omega⟩)) :
    k0_pay13 (k0_pay4 i) (k0_pay12 v0 v1 v2 v3 v4 v5 v6 v7 v8 v9 v10 v11) v12 v13 v14 v15 v16 w s (ix2 p d) = mix Z W sc r 3 d := by
  rw [pay13_at]
  simp only [h0, h1, h2, h3, h4, h5, h6, h7, h8, h9, h10, h11, h12, h13, h14, h15, h16, hw, hsc, hi]
  unfold mix pl
  refine congrArg₂ (· * ·) (Finset.sum_congr rfl fun k _ => congrArg₂ (· * ·) (congrArg₂ (· - ·) (congrArg₂ (· * ·) ?_ rfl) ?_) rfl) rfl
  · show _ = ∑ j ∈ Finset.range 16, _
    simp only [Finset.sum_range_succ, Finset.sum_range_zero, zero_add]
    rfl
  · exact if_pos (Nat.zero_le _)

theorem piece3 (c : Dev nD) (t : Fin cfg0.N) (p : Fin 512) (d : Fin 256) (r : Fin 8192) (hr : r.val = t.val * 512 + p.val) :
    k0_pay13 (k0_pay4 (grid0.coords t)) (k0_pay12 ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 768] ![512, 256] inb_S528x1024_S512x256_16_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![15, 768] ![512, 256] inb_S528x1024_S512x256_15_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![14, 768] ![512, 256] inb_S528x1024_S512x256_14_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![13, 768] ![512, 256] inb_S528x1024_S512x256_13_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![12, 768] ![512, 256] inb_S528x1024_S512x256_12_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![11, 768] ![512, 256] inb_S528x1024_S512x256_11_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![10, 768] ![512, 256] inb_S528x1024_S512x256_10_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![9, 768] ![512, 256] inb_S528x1024_S512x256_9_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![8, 768] ![512, 256] inb_S528x1024_S512x256_8_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![7, 768] ![512, 256] inb_S528x1024_S512x256_7_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![6, 768] ![512, 256] inb_S528x1024_S512x256_6_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![5, 768] ![512, 256] inb_S528x1024_S512x256_5_768).toLoadRect)) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![4, 768] ![512, 256] inb_S528x1024_S512x256_4_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![3, 768] ![512, 256] inb_S528x1024_S512x256_3_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![2, 768] ![512, 256] inb_S528x1024_S512x256_2_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![1, 768] ![512, 256] inb_S528x1024_S512x256_1_768).toLoadRect) ((View.whole cc0_scratch0).readCov (Val := Elt Ideal) [⟨Rect.unit ![16, 0] ![512, 1024] inb_S528x1024_S512x1024_16_0, k0_pay3 (iblk m c 0 t)⟩, ⟨Rect.unit ![0, 0] ![16, 1024] inb_S528x1024_S16x1024_0_0, k0_pay2 (grid0.coords t) (iblk m c 1 t)⟩] (Rect.unit ![16, 768] ![512, 256] inb_S528x1024_S512x256_16_768).toLoadRect) (View.ld (iblk m c 2 t) (Rect.unit ![3, 0, 0] ![1, 256, 256] inb_S4x256x256_S1x256x256_3_0_0)) (View.ld (iblk m c 3 t) (Rect.unit ![0, 768] ![1, 256] inb_S1x1024_S1x256_0_768)) (ix2 p d)
      = mix (m ((c : Thread nD τ).loc main_arg0)) (m ((c : Thread nD τ).loc main_arg1)) (m ((c : Thread nD τ).loc main_arg2)) r 3 d := by
  have hN : t.val < 16 := lt_of_lt_of_eq t.isLt N_0
  have hs : r.val % 2048 = t.val % 4 * 512 + p.val := by omega
  have hb : r.val / 2048 = t.val / 4 := by omega
  refine mix3_at (grid0.coords t) _ _ _ _ _ _ _ _ _ _ _ _ _ _ _ _ _ _ _  _ _ _ p d r (by rw [coord t, hs]) (fun k => ld_ext m c t 16 0 rfl 768 _ p k _ rfl _ hb _ hs) (fun k => ld_ext m c t 15 1 rfl 768 _ p k _ rfl _ hb _ hs) (fun k => ld_ext m c t 14 2 rfl 768 _ p k _ rfl _ hb _ hs) (fun k => ld_ext m c t 13 3 rfl 768 _ p k _ rfl _ hb _ hs) (fun k => ld_ext m c t 12 4 rfl 768 _ p k _ rfl _ hb _ hs) (fun k => ld_ext m c t 11 5 rfl 768 _ p k _ rfl _ hb _ hs) (fun k => ld_ext m c t 10 6 rfl 768 _ p k _ rfl _ hb _ hs) (fun k => ld_ext m c t 9 7 rfl 768 _ p k _ rfl _ hb _ hs) (fun k => ld_ext m c t 8 8 rfl 768 _ p k _ rfl _ hb _ hs) (fun k => ld_ext m c t 7 9 rfl 768 _ p k _ rfl _ hb _ hs) (fun k => ld_ext m c t 6 10 rfl 768 _ p k _ rfl _ hb _ hs) (fun k => ld_ext m c t 5 11 rfl 768 _ p k _ rfl _ hb _ hs) (fun k => ld_ext m c t 4 12 rfl 768 _ p k _ rfl _ hb _ hs) (fun k => ld_ext m c t 3 13 rfl 768 _ p k _ rfl _ hb _ hs) (fun k => ld_ext m c t 2 14 rfl 768 _ p k _ rfl _ hb _ hs) (fun k => ld_ext m c t 1 15 rfl 768 _ p k _ rfl _ hb _ hs) (fun k => ld_ext m c t 16 0 rfl 768 _ p k _ rfl _ hb _ hs) (fun k => ?_) ?_
  · exact (rd_w3 t (V m c main_v1) k d).trans (w_at m c 3 k d)
  · exact (rd_s3 t (V m c main_v3) d).trans (s_at m c _)

end Cert.PoolIdeal.Val

end
-- ==== Proof.PoolValue.lean ====
/- Pooling call: what the idealized kernel leaves in its result, as a function of the arguments. -/
module

public import proofs.«01_k».proof.Proof.PoolPieces
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Val
open Cert.PoolIdeal Cert.PoolIdeal.Gen
variable (m : (ℓ : Loc nD τ sig) → Buf (Elt Ideal) ℓ)

theorem pay14_at (g : Vec Ideal S1x1024 .f32) (q : Fin 1024) : k0_pay14 g (ix2 0 q) = g (ix2 0 q) := by
  pointwise [k0_pay14]

theorem pay15_at (a : Vec Ideal S512x1024 .f32) (p : Fin 512) (q : Fin 1024) : k0_pay15 a (ix2 p q) = a (ix2 p q) * a (ix2 p q) := by
  pointwise [k0_pay15]

/-- The mixed channels of a row, channel by channel of all four groups. -/
def mixq (Z : FVec Ideal S8192x1024 .bf16) (W : FVec Ideal S1x4x256x256 .f32) (sc : FVec Ideal S1x1024 .f32) (r : Fin 8192) (q : Fin 1024) : EReal :=
  mix Z W sc r ⟨q.val / 256, by omega⟩ ⟨q.val % 256, by omega⟩

theorem mixq_eq (Z : FVec Ideal S8192x1024 .bf16) (W : FVec Ideal S1x4x256x256 .f32) (sc : FVec Ideal S1x1024 .f32) (r : Fin 8192) (q : Fin 1024)
    (g : Fin 4) (d : Fin 256) (h : q.val = 256 * g.val + d.val) : mixq Z W sc r q = mix Z W sc r g d := by
  unfold mixq
  have e1 : (⟨q.val / 256, by omega⟩ : Fin 4) = g := Fin.ext (by show q.val / 256 = g.val; omega)
  have e2 : (⟨q.val % 256, by omega⟩ : Fin 256) = d := Fin.ext (by show q.val % 256 = d.val; omega)
  rw [e1, e2]

/-- The call's result as a function of its arguments: the mixed row, normalised by its root mean square, times the gain. -/
def G (Z : FVec Ideal S8192x1024 .bf16) (W : FVec Ideal S1x4x256x256 .f32) (sc gn : FVec Ideal S1x1024 .f32) (r : Fin 8192) (q : Fin 1024) : EReal :=
  mixq Z W sc r q * Ideal.rsqrt (Ideal.div (∑ k : Fin 1024, mixq Z W sc r k * mixq Z W sc r k) (Ideal.ofBits FTy.f32 0x44800000#32)
    + Ideal.ofBits FTy.f32 0x358637BD#32) * gn (ix2 0 q)

theorem norm_at (a : Vec Ideal S512x1024 .f32) (g : Vec Ideal S1x1024 .f32) (Z : FVec Ideal S8192x1024 .bf16) (W : FVec Ideal S1x4x256x256 .f32)
    (sc gn : FVec Ideal S1x1024 .f32) (r : Fin 8192) (p : Fin 512) (q : Fin 1024) (ha : ∀ k : Fin 1024, a (ix2 p k) = mixq Z W sc r k)
    (hg : g (ix2 0 q) = gn (ix2 0 q)) : k0_pay1 a (k0_pay14 g) (k0_pay15 a) (ix2 p q) = G Z W sc gn r q := by
  rw [pay1_at, pay14_at]
  simp only [pay15_at, ha, hg]
  rfl

theorem rd_g (t : Fin cfg0.N) (A : FVec Ideal S1x1024 .f32) (q : Fin 1024) :
    View.read (Elt Ideal) ((cfg0.win 4).blk t).view A (ix2 0 q : S1x1024.Idx) = A (ix2 0 q) := by
  refine congrArg A (funext fun a => Fin.ext ?_)
  have h := (idx t).2.2.2.2.1
  match a with
  | ⟨0, _⟩ => show win0_4.index t 0 * 1 + 1 * 0 = 0; rw [h]; rfl
  | ⟨1, _⟩ => show win0_4.index t 1 * 1024 + 1 * q.val = q.val; rw [h]; show 0 * 1024 + 1 * q.val = q.val; omega

theorem point (c : Dev nD) (t : Fin cfg0.N) (p : Fin 512) (q : Fin 1024) (r : Fin 8192) (hr : r.val = t.val * 512 + p.val) :
    outsAt0 m c t (ix2 p q) = G (m ((c : Thread nD τ).loc main_arg0)) (m ((c : Thread nD τ).loc main_arg1)) (m ((c : Thread nD τ).loc main_arg2)) (m ((c : Thread nD τ).loc main_arg3)) r q := by
  unfold outsAt0
  frame_out
  refine norm_at _ _ _ _ _ _ r p q (fun k => ?_) ?_
  · rw [View.readCov_eq_canon']
    show View.canon _ ((Rect.unit (s := S512x1024) ![0, 0] ![512, 1024] inb_S512x1024_S512x1024_0_0).toLoadRect.idx (ix2 p k : S512x1024.Idx)) = _
    have h0 : ((Rect.unit (s := S512x1024) ![0, 0] ![512, 1024] inb_S512x1024_S512x1024_0_0).toLoadRect.idx (ix2 p k : S512x1024.Idx) (0 : Fin 2)).val = p.val := by
      show 0 + 1 * p.val = _; omega
    have h1 : ((Rect.unit (s := S512x1024) ![0, 0] ![512, 1024] inb_S512x1024_S512x1024_0_0).toLoadRect.idx (ix2 p k : S512x1024.Idx) (1 : Fin 2)).val = k.val := by
      show 0 + 1 * k.val = _; omega
    generalize (Rect.unit (s := S512x1024) ![0, 0] ![512, 1024] inb_S512x1024_S512x1024_0_0).toLoadRect.idx (ix2 p k : S512x1024.Idx) = y at h0 h1 ⊢
    canon_tiles x h
    · idx_vars x
      have e1 : k.val = 768 + x1.val := by omega
      exact (piece3 m c t x0 x1 r (by omega)).trans (mixq_eq _ _ _ r k 3 x1 (by show k.val = 256 * 3 + x1.val; omega)).symm
    · idx_vars x
      have e1 : k.val = 512 + x1.val := by omega
      exact (piece2 m c t x0 x1 r (by omega)).trans (mixq_eq _ _ _ r k 2 x1 (by show k.val = 256 * 2 + x1.val; omega)).symm
    · idx_vars x
      have e1 : k.val = 256 + x1.val := by omega
      exact (piece1 m c t x0 x1 r (by omega)).trans (mixq_eq _ _ _ r k 1 x1 (by show k.val = 256 * 1 + x1.val; omega)).symm
    · idx_vars x
      have e1 : k.val = 0 + x1.val := by omega
      exact (piece0 m c t x0 x1 r (by omega)).trans (mixq_eq _ _ _ r k 0 x1 (by show k.val = 256 * 0 + x1.val; omega)).symm
  · refine Eq.trans ?_ (g_at m c q)
    exact rd_g t (V m c main_v5) q

theorem final (c : Dev nD) : (dats m 0 c).arrAt 5 (cfgs 0).N = fun i : S8192x1024.Idx => G (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have hN : t.val < 16 := lt_of_lt_of_eq t.isLt N_0
  have hy : y = (ix2 (y 0) (y 1) : S512x1024.Idx) := eq_ix2 (n0 := 512) (n1 := 1024) y
  have hq : ((win0_5.blk t).view.emb y 1) = (y 1 : Fin 1024) := by
    apply Fin.ext; blk_simp [idx t]
  rw [hq]
  refine Eq.trans (congrArg _ hy) (point m c t (y 0) (y 1) _ ?_)
  blk_simp [idx t]

end Cert.PoolIdeal.Val

end
-- ==== Proof.PoolRef.lean ====
/- Pooling call: the reference's pooled values. Its running sums are sums of prefixes, its gather reads the running sum at the
first position of a window, and over finite activations the difference of two of them is the window's sum. -/
module

public import proofs.«01_k».proof.Proof.PoolValue
public import proofs.«01_k».proof.Proof.Gen.PoolRefIdeal.Run
public import Idealize.ShloMosaic.Lib.KernelVsHost
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolRefIdeal.Val
open Cert.PoolRefIdeal Cert.PoolRefIdeal.Gen Cert.PoolRefIdeal.Value
open Idealize.ShloMosaic.StableHlo

/-- A left fold that adds one value per step is the start plus the sum of the values. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The positions of a window that is long along one axis only. -/
theorem sum_window (f : (⟨4, ![1, 2048, 1, 1]⟩ : Shape).Idx → EReal) : ∑ w, f w = ∑ k : Fin 2048, f (ix4 0 k 0 0) := by
  refine (Fintype.sum_bijective (fun k : Fin 2048 => (ix4 0 k 0 0 : (⟨4, ![1, 2048, 1, 1]⟩ : Shape).Idx)) ⟨fun a b h => congrFun h 1, fun w => ⟨w 1, ?_⟩⟩ _ _
    fun _ => rfl).symm
  funext a
  apply Fin.ext
  match a with
  | ⟨0, _⟩ => have h : (w 0).val < 1 := (w 0).isLt; show 0 = (w 0).val; omega
  | ⟨1, _⟩ => rfl
  | ⟨2, _⟩ => have h : (w 2).val < 1 := (w 2).isLt; show 0 = (w 2).val; omega
  | ⟨3, _⟩ => have h : (w 3).val < 1 := (w 3).isLt; show 0 = (w 3).val; omega

/-- A running sum, read as a window of the whole length padded low by one less. -/
theorem sum_prefix (f : ℕ → EReal) (s : ℕ) (hs : s < 2048) :
    ∑ k : Fin 2048, (if 2047 ≤ s + k.val then f (s + k.val - 2047) else 0) = ∑ i ∈ Finset.range (s + 1), f i := by
  rw [Fin.sum_univ_eq_sum_range (fun k => if 2047 ≤ s + k then f (s + k - 2047) else 0) 2048]
  obtain ⟨d, hd⟩ : ∃ d, 2047 = s + d := ⟨2047 - s, by omega⟩
  rw [show 2048 = d + (s + 1) by omega, Finset.sum_range_add, hd]
  rw [Finset.sum_eq_zero (fun k hk => if_neg (by have := Finset.mem_range.1 hk; omega)), zero_add]
  refine Finset.sum_congr rfl fun i _ => ?_
  rw [if_pos (by omega), show s + (d + i) - (s + d) = i by omega]

theorem cumsum_at (x : FVec Ideal S4x2048x4x256 .f32) (init : FVec Ideal S_ .f32) (hi : ∀ j, init j = 0) (h) (hu) (b : Fin 4) (s : Fin 2048) (g : Fin 4) (k : Fin 256) :
    Host.reduceWindowAdd (F := Ideal) (t := S4x2048x4x256) ![1, 2048, 1, 1] ![1, 1, 1, 1] ![0, 2047, 0, 0] ![0, 0, 0, 0] x init h hu (ix4 b s g k)
      = ∑ i ∈ Finset.range (s.val + 1), (if hi : i < 2048 then x (ix4 b ⟨i, hi⟩ g k) else 0) := by
  rw [← sum_prefix _ _ s.isLt]
  unfold Host.reduceWindowAdd
  rw [Ideal.hostReduceWindowAdd_def]
  unfold Ideal.hostReduceWindowAdd Host.reduceWindow
  dsimp only
  rw [foldl_add, hi, zero_add, ← Fin.sum_univ_def]
  refine Eq.trans (Finset.sum_congr rfl fun n _ => ?_) (Eq.trans (Equiv.sum_comp (Shape.rowMajor ⟨4, ![1, 2048, 1, 1]⟩).symm
    (fun w => (if 2047 ≤ s.val + (w 1).val then (if hi : s.val + (w 1).val - 2047 < 2048 then x (ix4 b ⟨s.val + (w 1).val - 2047, hi⟩ g k) else 0) else 0)))
    (sum_window _))
  have hs := s.isLt
  have h0 : ((Shape.rowMajor ⟨4, ![1, 2048, 1, 1]⟩).symm n 0).val < 1 := ((Shape.rowMajor ⟨4, ![1, 2048, 1, 1]⟩).symm n 0).isLt
  have hw : ((Shape.rowMajor ⟨4, ![1, 2048, 1, 1]⟩).symm n 1).val < 2048 := ((Shape.rowMajor ⟨4, ![1, 2048, 1, 1]⟩).symm n 1).isLt
  have h2 : ((Shape.rowMajor ⟨4, ![1, 2048, 1, 1]⟩).symm n 2).val < 1 := ((Shape.rowMajor ⟨4, ![1, 2048, 1, 1]⟩).symm n 2).isLt
  have h3 : ((Shape.rowMajor ⟨4, ![1, 2048, 1, 1]⟩).symm n 3).val < 1 := ((Shape.rowMajor ⟨4, ![1, 2048, 1, 1]⟩).symm n 3).isLt
  by_cases hc : 2047 ≤ s.val + ((Shape.rowMajor ⟨4, ![1, 2048, 1, 1]⟩).symm n 1).val
  · rw [if_pos hc, dif_pos (show s.val + ((Shape.rowMajor ⟨4, ![1, 2048, 1, 1]⟩).symm n 1).val - 2047 < 2048 by omega), dif_pos]
    · refine congrArg x (funext fun a => Fin.ext ?_)
      match a with
      | ⟨0, _⟩ => show b.val * 1 + ((Shape.rowMajor ⟨4, ![1, 2048, 1, 1]⟩).symm n 0).val - 0 = b.val; omega
      | ⟨1, _⟩ => show s.val * 1 + ((Shape.rowMajor ⟨4, ![1, 2048, 1, 1]⟩).symm n 1).val - 2047 = s.val + ((Shape.rowMajor ⟨4, ![1, 2048, 1, 1]⟩).symm n 1).val - 2047; omega
      | ⟨2, _⟩ => show g.val * 1 + ((Shape.rowMajor ⟨4, ![1, 2048, 1, 1]⟩).symm n 2).val - 0 = g.val; omega
      | ⟨3, _⟩ => show k.val * 1 + ((Shape.rowMajor ⟨4, ![1, 2048, 1, 1]⟩).symm n 3).val - 0 = k.val; omega
    · intro a
      match a with
      | ⟨0, _⟩ => show 0 ≤ b.val * 1 + ((Shape.rowMajor ⟨4, ![1, 2048, 1, 1]⟩).symm n 0).val ∧ b.val * 1 + ((Shape.rowMajor ⟨4, ![1, 2048, 1, 1]⟩).symm n 0).val - 0 < 4; omega
      | ⟨1, _⟩ => show 2047 ≤ s.val * 1 + ((Shape.rowMajor ⟨4, ![1, 2048, 1, 1]⟩).symm n 1).val ∧ s.val * 1 + ((Shape.rowMajor ⟨4, ![1, 2048, 1, 1]⟩).symm n 1).val - 2047 < 2048; omega
      | ⟨2, _⟩ => show 0 ≤ g.val * 1 + ((Shape.rowMajor ⟨4, ![1, 2048, 1, 1]⟩).symm n 2).val ∧ g.val * 1 + ((Shape.rowMajor ⟨4, ![1, 2048, 1, 1]⟩).symm n 2).val - 0 < 4; omega
      | ⟨3, _⟩ => show 0 ≤ k.val * 1 + ((Shape.rowMajor ⟨4, ![1, 2048, 1, 1]⟩).symm n 3).val ∧ k.val * 1 + ((Shape.rowMajor ⟨4, ![1, 2048, 1, 1]⟩).symm n 3).val - 0 < 256; omega
  · rw [if_neg hc, dif_neg]

    intro hin
    have h1 : 2047 ≤ s.val * 1 + ((Shape.rowMajor ⟨4, ![1, 2048, 1, 1]⟩).symm n 1).val := (hin 1).1
    omega

theorem gather_at (x : FVec Ideal S4x2049x4x256 .f32) (idx : IVec S2048x2 32) (b : Fin 4) (s : Fin 2048) (k : Fin 256) :
    Host.gather gather_S4x2049x4x256_S2048x2_S4x2048x256_02_12_n_n_12_1_411256 x idx (ix3 b s k)
      = x (ix4 b ⟨min (idx (ix2 s 0)).toInt.toNat 2048, by omega⟩ ⟨min (idx (ix2 s 1)).toInt.toNat 3, by omega⟩ k) := by
  unfold Host.gather
  refine congrArg x (funext fun a => Fin.ext ?_)
  show (gather_S4x2049x4x256_S2048x2_S4x2048x256_02_12_n_n_12_1_411256).start _ idx a
    + (gather_S4x2049x4x256_S2048x2_S4x2048x256_02_12_n_n_12_1_411256).batchCoord _ a
    + (gather_S4x2049x4x256_S2048x2_S4x2048x256_02_12_n_n_12_1_411256).offCoord _ a = _
  rw [GatherDims.batchCoord_eq_zero _ _ _ (show ¬ a ∈ ([] : List (Fin 4)) from List.not_mem_nil)]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · unfold GatherDims.start
    rw [dif_neg (show ¬ (0 : Fin 4) ∈ (gather_S4x2049x4x256_S2048x2_S4x2048x256_02_12_n_n_12_1_411256).startIndexMap from (show ¬ (0 : Fin 4) ∈ ([1, 2] : List (Fin 4)) by decide))]
    unfold GatherDims.offCoord
    rw [dif_pos (show (0 : Fin 4) ∈ (gather_S4x2049x4x256_S2048x2_S4x2048x256_02_12_n_n_12_1_411256).sKept by decide)]
    simp only [Nat.zero_add, Nat.add_zero]
    rfl
  · rw [GatherDims.offCoord_eq_zero _ _ _ (fun h => ((GatherDims.mem_sKept _ _).mp h).1 (show (1 : Fin 4) ∈ ([1, 2] : List (Fin 4)) by decide))]
    unfold GatherDims.start
    rw [dif_pos (show (1 : Fin 4) ∈ (gather_S4x2049x4x256_S2048x2_S4x2048x256_02_12_n_n_12_1_411256).startIndexMap from (show (1 : Fin 4) ∈ ([1, 2] : List (Fin 4)) by decide))]
    have hsi : ∀ p, (gather_S4x2049x4x256_S2048x2_S4x2048x256_02_12_n_n_12_1_411256).siIdx (ix3 b s k) ⟨0, p⟩ = ix2 s 0 := by
      intro p; funext b'; refine Fin.ext ?_
      match b' with
      | ⟨0, _⟩ => rfl
      | ⟨1, _⟩ => rfl
    exact congrArg (fun i => min (idx i).toInt.toNat 2048) (hsi _)
  · rw [GatherDims.offCoord_eq_zero _ _ _ (fun h => ((GatherDims.mem_sKept _ _).mp h).1 (show (2 : Fin 4) ∈ ([1, 2] : List (Fin 4)) by decide))]
    unfold GatherDims.start
    rw [dif_pos (show (2 : Fin 4) ∈ (gather_S4x2049x4x256_S2048x2_S4x2048x256_02_12_n_n_12_1_411256).startIndexMap from (show (2 : Fin 4) ∈ ([1, 2] : List (Fin 4)) by decide))]
    have hsi : ∀ p, (gather_S4x2049x4x256_S2048x2_S4x2048x256_02_12_n_n_12_1_411256).siIdx (ix3 b s k) ⟨1, p⟩ = ix2 s 1 := by
      intro p; funext b'; refine Fin.ext ?_
      match b' with
      | ⟨0, _⟩ => rfl
      | ⟨1, _⟩ => rfl
    exact congrArg (fun i => min (idx i).toInt.toNat 3) (hsi _)
  · unfold GatherDims.start
    rw [dif_neg (show ¬ (3 : Fin 4) ∈ (gather_S4x2049x4x256_S2048x2_S4x2048x256_02_12_n_n_12_1_411256).startIndexMap from (show ¬ (3 : Fin 4) ∈ ([1, 2] : List (Fin 4)) by decide))]
    unfold GatherDims.offCoord
    rw [dif_pos (show (3 : Fin 4) ∈ (gather_S4x2049x4x256_S2048x2_S4x2048x256_02_12_n_n_12_1_411256).sKept by decide)]
    simp only [Nat.zero_add, Nat.add_zero]
    rfl

/-- Group 0's gather indices: at position `s` the first position of its window and the group. -/
def gix0 (lo : IVec S2048 32) : IVec S2048x2 32 :=
  concatenate S2048x2 1 [⟨S2048x1, (broadcastInDim S2048x1 ![0] bcast_S2048_S2048x1_0 (select (cmpi .slt lo (broadcastInDim S2048 ![] bcast_S_S2048 (constantI S_ 32 0#32))) (addi lo (broadcastInDim S2048 ![] bcast_S_S2048 (constantI S_ 32 2049#32))) lo))⟩, ⟨S2048x1, (broadcastInDim S2048x1 ![0] bcast_S2048_S2048x1_0 (id (broadcastInDim S2048 ![] bcast_S_S2048 (constantI S_ 32 0#32))))⟩] concatenates_S2048x1_S2048x1_S2048x2_d1

theorem gix0_0 (lo : IVec S2048 32) (s : Fin 2048) : gix0 lo (ix2 s 0) = Scalar.select (Scalar.cmpi .slt (lo (ix1 s)) 0#32) (IntOp.addi (lo (ix1 s)) 2049#32) (lo (ix1 s)) := by
  pointwise [gix0]
  rfl

theorem gix0_1 (lo : IVec S2048 32) (s : Fin 2048) : gix0 lo (ix2 s 1) = 0#32 := by
  pointwise [gix0]
  rfl

/-- Group 0's pooled values, as the reference writes them: the difference of two prefix sums over the count, less the value. -/
def pg0 (A1 : FVec Ideal S4x2048x4x256 .f32) (A3 : FVec Ideal S4x2049x4x256 .f32) (lo io : IVec S2048 32) : FVec Ideal S4x2048x256 .f32 :=
  subf (Host.divf (subf (shapeCast _ (extractStridedSlice S4x2048x1x256 ![0, 1, 0, 0] A3 slices_S4x2049x4x256_S4x2048x1x256_0_1_0_0) shapeCasts_S4x2048x1x256_S4x2048x256) (Host.gather gather_S4x2049x4x256_S2048x2_S4x2048x256_02_12_n_n_12_1_411256 A3 (gix0 lo))) (broadcastInDim S4x2048x256 ![0, 1, 2] bcast_S1x2048x1_S4x2048x256_0_1_2 (broadcastInDim S1x2048x1 ![1] bcast_S2048_S1x2048x1_1 (sitofp .f32 (minsi (addi io (broadcastInDim S2048 ![] bcast_S_S2048 (constantI S_ 32 1#32))) (broadcastInDim S2048 ![] bcast_S_S2048 (constantI S_ 32 2#32))))))) (shapeCast _ (extractStridedSlice S4x2048x1x256 ![0, 0, 0, 0] A1 slices_S4x2048x4x256_S4x2048x1x256_0_0_0_0) shapeCasts_S4x2048x1x256_S4x2048x256)

theorem pg0_at (A1 : FVec Ideal S4x2048x4x256 .f32) (A3 : FVec Ideal S4x2049x4x256 .f32) (lo io : IVec S2048 32) (b : Fin 4) (s : Fin 2048) (k : Fin 256) :
    pg0 A1 A3 lo io (ix3 b s k) = Ideal.div (A3 (ix4 b ⟨1 + s.val, by omega⟩ 0 k) - Host.gather gather_S4x2049x4x256_S2048x2_S4x2048x256_02_12_n_n_12_1_411256 A3 (gix0 lo) (ix3 b s k))
      (FloatOps.sitofp (F := Ideal) FTy.f32 (IntOp.minsi (IntOp.addi (io (ix1 s)) 1#32) 2#32)) - A1 (ix4 b s 0 k) := by
  pointwise [pg0]

theorem lo2 : ∀ s : Fin 2048, (Scalar.select (Scalar.cmpi .slt (IntOp.maxsi (IntOp.subi (IntOp.addi (BitVec.ofNat 32 s.val) 1#32) 2#32) 0#32) 0#32)
    (IntOp.addi (IntOp.maxsi (IntOp.subi (IntOp.addi (BitVec.ofNat 32 s.val) 1#32) 2#32) 0#32) 2049#32)
    (IntOp.maxsi (IntOp.subi (IntOp.addi (BitVec.ofNat 32 s.val) 1#32) 2#32) 0#32)).toInt.toNat = s.val + 1 - 2 := by
  decide +kernel

/-- Group 1's gather indices: at position `s` the first position of its window and the group. -/
def gix1 (lo : IVec S2048 32) : IVec S2048x2 32 :=
  concatenate S2048x2 1 [⟨S2048x1, (broadcastInDim S2048x1 ![0] bcast_S2048_S2048x1_0 (select (cmpi .slt lo (broadcastInDim S2048 ![] bcast_S_S2048 (constantI S_ 32 0#32))) (addi lo (broadcastInDim S2048 ![] bcast_S_S2048 (constantI S_ 32 2049#32))) lo))⟩, ⟨S2048x1, (broadcastInDim S2048x1 ![0] bcast_S2048_S2048x1_0 (id (broadcastInDim S2048 ![] bcast_S_S2048 (constantI S_ 32 1#32))))⟩] concatenates_S2048x1_S2048x1_S2048x2_d1

theorem gix1_0 (lo : IVec S2048 32) (s : Fin 2048) : gix1 lo (ix2 s 0) = Scalar.select (Scalar.cmpi .slt (lo (ix1 s)) 0#32) (IntOp.addi (lo (ix1 s)) 2049#32) (lo (ix1 s)) := by
  pointwise [gix1]
  rfl

theorem gix1_1 (lo : IVec S2048 32) (s : Fin 2048) : gix1 lo (ix2 s 1) = 1#32 := by
  pointwise [gix1]
  rfl

/-- Group 1's pooled values, as the reference writes them: the difference of two prefix sums over the count, less the value. -/
def pg1 (A1 : FVec Ideal S4x2048x4x256 .f32) (A3 : FVec Ideal S4x2049x4x256 .f32) (lo io : IVec S2048 32) : FVec Ideal S4x2048x256 .f32 :=
  subf (Host.divf (subf (shapeCast _ (extractStridedSlice S4x2048x1x256 ![0, 1, 1, 0] A3 slices_S4x2049x4x256_S4x2048x1x256_0_1_1_0) shapeCasts_S4x2048x1x256_S4x2048x256) (Host.gather gather_S4x2049x4x256_S2048x2_S4x2048x256_02_12_n_n_12_1_411256 A3 (gix1 lo))) (broadcastInDim S4x2048x256 ![0, 1, 2] bcast_S1x2048x1_S4x2048x256_0_1_2 (broadcastInDim S1x2048x1 ![1] bcast_S2048_S1x2048x1_1 (sitofp .f32 (minsi (addi io (broadcastInDim S2048 ![] bcast_S_S2048 (constantI S_ 32 1#32))) (broadcastInDim S2048 ![] bcast_S_S2048 (constantI S_ 32 4#32))))))) (shapeCast _ (extractStridedSlice S4x2048x1x256 ![0, 0, 1, 0] A1 slices_S4x2048x4x256_S4x2048x1x256_0_0_1_0) shapeCasts_S4x2048x1x256_S4x2048x256)

theorem pg1_at (A1 : FVec Ideal S4x2048x4x256 .f32) (A3 : FVec Ideal S4x2049x4x256 .f32) (lo io : IVec S2048 32) (b : Fin 4) (s : Fin 2048) (k : Fin 256) :
    pg1 A1 A3 lo io (ix3 b s k) = Ideal.div (A3 (ix4 b ⟨1 + s.val, by omega⟩ 1 k) - Host.gather gather_S4x2049x4x256_S2048x2_S4x2048x256_02_12_n_n_12_1_411256 A3 (gix1 lo) (ix3 b s k))
      (FloatOps.sitofp (F := Ideal) FTy.f32 (IntOp.minsi (IntOp.addi (io (ix1 s)) 1#32) 4#32)) - A1 (ix4 b s 1 k) := by
  pointwise [pg1]

theorem lo4 : ∀ s : Fin 2048, (Scalar.select (Scalar.cmpi .slt (IntOp.maxsi (IntOp.subi (IntOp.addi (BitVec.ofNat 32 s.val) 1#32) 4#32) 0#32) 0#32)
    (IntOp.addi (IntOp.maxsi (IntOp.subi (IntOp.addi (BitVec.ofNat 32 s.val) 1#32) 4#32) 0#32) 2049#32)
    (IntOp.maxsi (IntOp.subi (IntOp.addi (BitVec.ofNat 32 s.val) 1#32) 4#32) 0#32)).toInt.toNat = s.val + 1 - 4 := by
  decide +kernel

/-- Group 2's gather indices: at position `s` the first position of its window and the group. -/
def gix2 (lo : IVec S2048 32) : IVec S2048x2 32 :=
  concatenate S2048x2 1 [⟨S2048x1, (broadcastInDim S2048x1 ![0] bcast_S2048_S2048x1_0 (select (cmpi .slt lo (broadcastInDim S2048 ![] bcast_S_S2048 (constantI S_ 32 0#32))) (addi lo (broadcastInDim S2048 ![] bcast_S_S2048 (constantI S_ 32 2049#32))) lo))⟩, ⟨S2048x1, (broadcastInDim S2048x1 ![0] bcast_S2048_S2048x1_0 (id (broadcastInDim S2048 ![] bcast_S_S2048 (constantI S_ 32 2#32))))⟩] concatenates_S2048x1_S2048x1_S2048x2_d1

theorem gix2_0 (lo : IVec S2048 32) (s : Fin 2048) : gix2 lo (ix2 s 0) = Scalar.select (Scalar.cmpi .slt (lo (ix1 s)) 0#32) (IntOp.addi (lo (ix1 s)) 2049#32) (lo (ix1 s)) := by
  pointwise [gix2]
  rfl

theorem gix2_1 (lo : IVec S2048 32) (s : Fin 2048) : gix2 lo (ix2 s 1) = 2#32 := by
  pointwise [gix2]
  rfl

/-- Group 2's pooled values, as the reference writes them: the difference of two prefix sums over the count, less the value. -/
def pg2 (A1 : FVec Ideal S4x2048x4x256 .f32) (A3 : FVec Ideal S4x2049x4x256 .f32) (lo io : IVec S2048 32) : FVec Ideal S4x2048x256 .f32 :=
  subf (Host.divf (subf (shapeCast _ (extractStridedSlice S4x2048x1x256 ![0, 1, 2, 0] A3 slices_S4x2049x4x256_S4x2048x1x256_0_1_2_0) shapeCasts_S4x2048x1x256_S4x2048x256) (Host.gather gather_S4x2049x4x256_S2048x2_S4x2048x256_02_12_n_n_12_1_411256 A3 (gix2 lo))) (broadcastInDim S4x2048x256 ![0, 1, 2] bcast_S1x2048x1_S4x2048x256_0_1_2 (broadcastInDim S1x2048x1 ![1] bcast_S2048_S1x2048x1_1 (sitofp .f32 (minsi (addi io (broadcastInDim S2048 ![] bcast_S_S2048 (constantI S_ 32 1#32))) (broadcastInDim S2048 ![] bcast_S_S2048 (constantI S_ 32 8#32))))))) (shapeCast _ (extractStridedSlice S4x2048x1x256 ![0, 0, 2, 0] A1 slices_S4x2048x4x256_S4x2048x1x256_0_0_2_0) shapeCasts_S4x2048x1x256_S4x2048x256)

theorem pg2_at (A1 : FVec Ideal S4x2048x4x256 .f32) (A3 : FVec Ideal S4x2049x4x256 .f32) (lo io : IVec S2048 32) (b : Fin 4) (s : Fin 2048) (k : Fin 256) :
    pg2 A1 A3 lo io (ix3 b s k) = Ideal.div (A3 (ix4 b ⟨1 + s.val, by omega⟩ 2 k) - Host.gather gather_S4x2049x4x256_S2048x2_S4x2048x256_02_12_n_n_12_1_411256 A3 (gix2 lo) (ix3 b s k))
      (FloatOps.sitofp (F := Ideal) FTy.f32 (IntOp.minsi (IntOp.addi (io (ix1 s)) 1#32) 8#32)) - A1 (ix4 b s 2 k) := by
  pointwise [pg2]

theorem lo8 : ∀ s : Fin 2048, (Scalar.select (Scalar.cmpi .slt (IntOp.maxsi (IntOp.subi (IntOp.addi (BitVec.ofNat 32 s.val) 1#32) 8#32) 0#32) 0#32)
    (IntOp.addi (IntOp.maxsi (IntOp.subi (IntOp.addi (BitVec.ofNat 32 s.val) 1#32) 8#32) 0#32) 2049#32)
    (IntOp.maxsi (IntOp.subi (IntOp.addi (BitVec.ofNat 32 s.val) 1#32) 8#32) 0#32)).toInt.toNat = s.val + 1 - 8 := by
  decide +kernel

/-- Group 3's gather indices: at position `s` the first position of its window and the group. -/
def gix3 (lo : IVec S2048 32) : IVec S2048x2 32 :=
  concatenate S2048x2 1 [⟨S2048x1, (broadcastInDim S2048x1 ![0] bcast_S2048_S2048x1_0 (select (cmpi .slt lo (broadcastInDim S2048 ![] bcast_S_S2048 (constantI S_ 32 0#32))) (addi lo (broadcastInDim S2048 ![] bcast_S_S2048 (constantI S_ 32 2049#32))) lo))⟩, ⟨S2048x1, (broadcastInDim S2048x1 ![0] bcast_S2048_S2048x1_0 (id (broadcastInDim S2048 ![] bcast_S_S2048 (constantI S_ 32 3#32))))⟩] concatenates_S2048x1_S2048x1_S2048x2_d1

theorem gix3_0 (lo : IVec S2048 32) (s : Fin 2048) : gix3 lo (ix2 s 0) = Scalar.select (Scalar.cmpi .slt (lo (ix1 s)) 0#32) (IntOp.addi (lo (ix1 s)) 2049#32) (lo (ix1 s)) := by
  pointwise [gix3]
  rfl

theorem gix3_1 (lo : IVec S2048 32) (s : Fin 2048) : gix3 lo (ix2 s 1) = 3#32 := by
  pointwise [gix3]
  rfl

/-- Group 3's pooled values, as the reference writes them: the difference of two prefix sums over the count, less the value. -/
def pg3 (A1 : FVec Ideal S4x2048x4x256 .f32) (A3 : FVec Ideal S4x2049x4x256 .f32) (lo io : IVec S2048 32) : FVec Ideal S4x2048x256 .f32 :=
  subf (Host.divf (subf (shapeCast _ (extractStridedSlice S4x2048x1x256 ![0, 1, 3, 0] A3 slices_S4x2049x4x256_S4x2048x1x256_0_1_3_0) shapeCasts_S4x2048x1x256_S4x2048x256) (Host.gather gather_S4x2049x4x256_S2048x2_S4x2048x256_02_12_n_n_12_1_411256 A3 (gix3 lo))) (broadcastInDim S4x2048x256 ![0, 1, 2] bcast_S1x2048x1_S4x2048x256_0_1_2 (broadcastInDim S1x2048x1 ![1] bcast_S2048_S1x2048x1_1 (sitofp .f32 (minsi (addi io (broadcastInDim S2048 ![] bcast_S_S2048 (constantI S_ 32 1#32))) (broadcastInDim S2048 ![] bcast_S_S2048 (constantI S_ 32 16#32))))))) (shapeCast _ (extractStridedSlice S4x2048x1x256 ![0, 0, 3, 0] A1 slices_S4x2048x4x256_S4x2048x1x256_0_0_3_0) shapeCasts_S4x2048x1x256_S4x2048x256)

theorem pg3_at (A1 : FVec Ideal S4x2048x4x256 .f32) (A3 : FVec Ideal S4x2049x4x256 .f32) (lo io : IVec S2048 32) (b : Fin 4) (s : Fin 2048) (k : Fin 256) :
    pg3 A1 A3 lo io (ix3 b s k) = Ideal.div (A3 (ix4 b ⟨1 + s.val, by omega⟩ 3 k) - Host.gather gather_S4x2049x4x256_S2048x2_S4x2048x256_02_12_n_n_12_1_411256 A3 (gix3 lo) (ix3 b s k))
      (FloatOps.sitofp (F := Ideal) FTy.f32 (IntOp.minsi (IntOp.addi (io (ix1 s)) 1#32) 16#32)) - A1 (ix4 b s 3 k) := by
  pointwise [pg3]

theorem lo16 : ∀ s : Fin 2048, (Scalar.select (Scalar.cmpi .slt (IntOp.maxsi (IntOp.subi (IntOp.addi (BitVec.ofNat 32 s.val) 1#32) 16#32) 0#32) 0#32)
    (IntOp.addi (IntOp.maxsi (IntOp.subi (IntOp.addi (BitVec.ofNat 32 s.val) 1#32) 16#32) 0#32) 2049#32)
    (IntOp.maxsi (IntOp.subi (IntOp.addi (BitVec.ofNat 32 s.val) 1#32) 16#32) 0#32)).toInt.toNat = s.val + 1 - 16 := by
  decide +kernel

theorem v1_at (V0 : Valuation τ sig (Elt Ideal)) (b : Fin 4) (s : Fin 2048) (g : Fin 4) (k : Fin 256) :
    res_main_v1 V0 (ix4 b s g k) = (V0 (Proc.devRef .tc main_arg0)) (ix2 ⟨b.val * 2048 + s.val, by omega⟩ ⟨256 * g.val + k.val, by omega⟩) := by
  pointwise [res_main_v1]
  all_goals simp only [Nat.mul_comm g.val 256]

theorem v4_at (V0 : Valuation τ sig (Elt Ideal)) (s : Fin 2048) : res_main_v4 V0 (ix1 s) = BitVec.ofNat 32 s.val := by
  pointwise [res_main_v4]

/-- The padded running sums: at `n` the sum of the first `n` positions. -/
theorem v3_at (V0 : Valuation τ sig (Elt Ideal)) (b : Fin 4) (n : Fin 2049) (g : Fin 4) (k : Fin 256) :
    res_main_v3 V0 (ix4 b n g k) = ∑ i ∈ Finset.range n.val, Cert.PoolIdeal.Val.U (V0 (Proc.devRef .tc main_arg0)) b ⟨256 * g.val + k.val, by omega⟩ i := by
  unfold res_main_v3
  by_cases hn : n.val = 0
  · refine (pad_apply_of_not_inside _ _ _ _ _ _ _ _ (1 : Fin 4) ?_).trans ?_
    · intro h
      have h1 : 1 ≤ n.val := h.1
      omega
    · rw [hn, Finset.sum_range_zero]
      show (((0#32 : BitVec 32).toInt : ℝ) : EReal) = 0
      simp
  · refine (pad_apply_of_inside _ _ _ _ _ _ _ _ (ix4 b ⟨n.val - 1, by omega⟩ g k : S4x2048x4x256.Idx) ?_).trans ?_
    · intro a
      match a with
      | ⟨0, _⟩ => show b.val = 0 + b.val * (0 + 1); omega
      | ⟨1, _⟩ => show n.val = 1 + (n.val - 1) * (0 + 1); omega
      | ⟨2, _⟩ => show g.val = 0 + g.val * (0 + 1); omega
      | ⟨3, _⟩ => show k.val = 0 + k.val * (0 + 1); omega
    · refine (cumsum_at _ _ (fun j => ?_) _ _ _ _ _ _).trans ?_
      · pointwise []
      · have e : n.val - 1 + 1 = n.val := by omega
        show ∑ i ∈ Finset.range (n.val - 1 + 1), _ = _
        rw [e]
        refine Finset.sum_congr rfl fun i hi => ?_
        have hi2 : i < 2048 := by have := Finset.mem_range.mp hi; omega
        unfold Cert.PoolIdeal.Val.U
        rw [dif_pos hi2, dif_pos hi2, v1_at]

/-- Over finite values, a window's sum is the difference of two running sums. -/
theorem window_real (f : ℕ → ℝ) (s w : ℕ) : (∑ i ∈ Finset.range (s + 1), f i) - (∑ i ∈ Finset.range (s + 1 - w), f i)
    = ∑ j ∈ Finset.range w, if j ≤ s then f (s - j) else 0 := by
  induction w with
  | zero => simp
  | succ w ih =>
    rw [Finset.sum_range_succ _ w, ← ih]
    by_cases h : w ≤ s
    · rw [if_pos h]
      have e : s + 1 - w = (s + 1 - (w + 1)) + 1 := by omega
      have e3 := Finset.sum_range_succ f (s + 1 - (w + 1))
      rw [e, e3]
      have e2 : s + 1 - (w + 1) = s - w := by omega
      rw [e2]
      ring
    · rw [if_neg h]
      have e : s + 1 - w = s + 1 - (w + 1) := by omega
      rw [e, add_zero]

theorem coe_sum (g : ℕ → ℝ) (S : Finset ℕ) : ((∑ i ∈ S, g i : ℝ) : EReal) = ∑ i ∈ S, (g i : EReal) := by
  induction S using Finset.cons_induction with
  | empty => simp
  | cons a S ha ih => rw [Finset.sum_cons, Finset.sum_cons, EReal.coe_add, ih]

theorem window (f : ℕ → EReal) (hf : ∀ i, ∃ x : ℝ, f i = (x : EReal)) (s w : ℕ) :
    (∑ i ∈ Finset.range (s + 1), f i) - (∑ i ∈ Finset.range (s + 1 - w), f i) = ∑ j ∈ Finset.range w, if j ≤ s then f (s - j) else 0 := by
  choose g hg using hf
  have e : f = fun i => (g i : EReal) := funext hg
  subst e
  have e2 : ∀ j, (if j ≤ s then ((g (s - j) : ℝ) : EReal) else 0) = ((if j ≤ s then g (s - j) else 0 : ℝ) : EReal) := by
    intro j
    by_cases h : j ≤ s
    · rw [if_pos h, if_pos h]
    · rw [if_neg h, if_neg h, EReal.coe_zero]
  simp only [e2]
  rw [← coe_sum, ← coe_sum, ← coe_sum, ← EReal.coe_sub, window_real]

theorem U_real (Z : FVec Ideal S8192x1024 .bf16) (hZ : ∀ i, ∃ x : ℝ, Z i = (x : EReal)) (b : Fin 4) (q : Fin 1024) (i : ℕ) :
    ∃ x : ℝ, Cert.PoolIdeal.Val.U Z b q i = (x : EReal) := by
  unfold Cert.PoolIdeal.Val.U
  by_cases h : i < 2048
  · rw [dif_pos h]; exact hZ _
  · rw [dif_neg h]; exact ⟨0, EReal.coe_zero.symm⟩

theorem v10_at (V0 : Valuation τ sig (Elt Ideal)) (s : Fin 2048) : res_main_v10 V0 (ix1 s) = IntOp.maxsi (IntOp.subi (IntOp.addi (BitVec.ofNat 32 s.val) 1#32) 2#32) 0#32 := by
  pointwise [res_main_v10, v4_at]

theorem pool0_at (V0 : Valuation τ sig (Elt Ideal)) (hZ : ∀ i : S8192x1024.Idx, ∃ x : ℝ, (V0 (Proc.devRef .tc main_arg0)) i = (x : EReal)) (b : Fin 4) (s : Fin 2048) (k : Fin 256) :
    pg0 (res_main_v1 V0) (res_main_v3 V0) (res_main_v10 V0) (res_main_v4 V0) (ix3 b s k)
      = Cert.PoolIdeal.Val.pl (V0 (Proc.devRef .tc main_arg0)) 2 b ⟨256 * 0 + k.val, by omega⟩ s.val := by
  rw [pg0_at, gather_at, v3_at, v3_at, v4_at, v1_at, Cert.PoolIdeal.Val.div_count _ _ 2 s.val (by omega) (Cert.PoolIdeal.Val.cnt2 s)]
  have e1 : min (gix0 (res_main_v10 V0) (ix2 s 0)).toInt.toNat 2048 = s.val + 1 - 2 := by
    rw [gix0_0, v10_at, lo2]; omega
  have e2 : (⟨min (gix0 (res_main_v10 V0) (ix2 s 1)).toInt.toNat 3, by omega⟩ : Fin 4) = 0 := by
    apply Fin.ext
    show min (gix0 (res_main_v10 V0) (ix2 s 1)).toInt.toNat 3 = 0
    rw [gix0_1]; rfl
  rw [e2]
  have e0 : 1 + s.val = s.val + 1 := by omega
  show ((∑ i ∈ Finset.range (1 + s.val), _) - (∑ i ∈ Finset.range (min (gix0 (res_main_v10 V0) (ix2 s 0)).toInt.toNat 2048), _)) * _ - _ = _
  rw [e0, e1, window _ (fun i => U_real _ hZ _ _ i)]
  unfold Cert.PoolIdeal.Val.pl
  refine congrArg₂ (· - ·) rfl ?_
  unfold Cert.PoolIdeal.Val.U
  rw [dif_pos s.isLt]
  rfl

theorem v41_at (V0 : Valuation τ sig (Elt Ideal)) (s : Fin 2048) : res_main_v41 V0 (ix1 s) = IntOp.maxsi (IntOp.subi (IntOp.addi (BitVec.ofNat 32 s.val) 1#32) 4#32) 0#32 := by
  pointwise [res_main_v41, v4_at]

theorem pool1_at (V0 : Valuation τ sig (Elt Ideal)) (hZ : ∀ i : S8192x1024.Idx, ∃ x : ℝ, (V0 (Proc.devRef .tc main_arg0)) i = (x : EReal)) (b : Fin 4) (s : Fin 2048) (k : Fin 256) :
    pg1 (res_main_v1 V0) (res_main_v3 V0) (res_main_v41 V0) (res_main_v4 V0) (ix3 b s k)
      = Cert.PoolIdeal.Val.pl (V0 (Proc.devRef .tc main_arg0)) 4 b ⟨256 * 1 + k.val, by omega⟩ s.val := by
  rw [pg1_at, gather_at, v3_at, v3_at, v4_at, v1_at, Cert.PoolIdeal.Val.div_count _ _ 4 s.val (by omega) (Cert.PoolIdeal.Val.cnt4 s)]
  have e1 : min (gix1 (res_main_v41 V0) (ix2 s 0)).toInt.toNat 2048 = s.val + 1 - 4 := by
    rw [gix1_0, v41_at, lo4]; omega
  have e2 : (⟨min (gix1 (res_main_v41 V0) (ix2 s 1)).toInt.toNat 3, by omega⟩ : Fin 4) = 1 := by
    apply Fin.ext
    show min (gix1 (res_main_v41 V0) (ix2 s 1)).toInt.toNat 3 = 1
    rw [gix1_1]; rfl
  rw [e2]
  have e0 : 1 + s.val = s.val + 1 := by omega
  show ((∑ i ∈ Finset.range (1 + s.val), _) - (∑ i ∈ Finset.range (min (gix1 (res_main_v41 V0) (ix2 s 0)).toInt.toNat 2048), _)) * _ - _ = _
  rw [e0, e1, window _ (fun i => U_real _ hZ _ _ i)]
  unfold Cert.PoolIdeal.Val.pl
  refine congrArg₂ (· - ·) rfl ?_
  unfold Cert.PoolIdeal.Val.U
  rw [dif_pos s.isLt]
  rfl

theorem v72_at (V0 : Valuation τ sig (Elt Ideal)) (s : Fin 2048) : res_main_v72 V0 (ix1 s) = IntOp.maxsi (IntOp.subi (IntOp.addi (BitVec.ofNat 32 s.val) 1#32) 8#32) 0#32 := by
  pointwise [res_main_v72, v4_at]

theorem pool2_at (V0 : Valuation τ sig (Elt Ideal)) (hZ : ∀ i : S8192x1024.Idx, ∃ x : ℝ, (V0 (Proc.devRef .tc main_arg0)) i = (x : EReal)) (b : Fin 4) (s : Fin 2048) (k : Fin 256) :
    pg2 (res_main_v1 V0) (res_main_v3 V0) (res_main_v72 V0) (res_main_v4 V0) (ix3 b s k)
      = Cert.PoolIdeal.Val.pl (V0 (Proc.devRef .tc main_arg0)) 8 b ⟨256 * 2 + k.val, by omega⟩ s.val := by
  rw [pg2_at, gather_at, v3_at, v3_at, v4_at, v1_at, Cert.PoolIdeal.Val.div_count _ _ 8 s.val (by omega) (Cert.PoolIdeal.Val.cnt8 s)]
  have e1 : min (gix2 (res_main_v72 V0) (ix2 s 0)).toInt.toNat 2048 = s.val + 1 - 8 := by
    rw [gix2_0, v72_at, lo8]; omega
  have e2 : (⟨min (gix2 (res_main_v72 V0) (ix2 s 1)).toInt.toNat 3, by omega⟩ : Fin 4) = 2 := by
    apply Fin.ext
    show min (gix2 (res_main_v72 V0) (ix2 s 1)).toInt.toNat 3 = 2
    rw [gix2_1]; rfl
  rw [e2]
  have e0 : 1 + s.val = s.val + 1 := by omega
  show ((∑ i ∈ Finset.range (1 + s.val), _) - (∑ i ∈ Finset.range (min (gix2 (res_main_v72 V0) (ix2 s 0)).toInt.toNat 2048), _)) * _ - _ = _
  rw [e0, e1, window _ (fun i => U_real _ hZ _ _ i)]
  unfold Cert.PoolIdeal.Val.pl
  refine congrArg₂ (· - ·) rfl ?_
  unfold Cert.PoolIdeal.Val.U
  rw [dif_pos s.isLt]
  rfl

theorem v103_at (V0 : Valuation τ sig (Elt Ideal)) (s : Fin 2048) : res_main_v103 V0 (ix1 s) = IntOp.maxsi (IntOp.subi (IntOp.addi (BitVec.ofNat 32 s.val) 1#32) 16#32) 0#32 := by
  pointwise [res_main_v103, v4_at]

theorem pool3_at (V0 : Valuation τ sig (Elt Ideal)) (hZ : ∀ i : S8192x1024.Idx, ∃ x : ℝ, (V0 (Proc.devRef .tc main_arg0)) i = (x : EReal)) (b : Fin 4) (s : Fin 2048) (k : Fin 256) :
    pg3 (res_main_v1 V0) (res_main_v3 V0) (res_main_v103 V0) (res_main_v4 V0) (ix3 b s k)
      = Cert.PoolIdeal.Val.pl (V0 (Proc.devRef .tc main_arg0)) 16 b ⟨256 * 3 + k.val, by omega⟩ s.val := by
  rw [pg3_at, gather_at, v3_at, v3_at, v4_at, v1_at, Cert.PoolIdeal.Val.div_count _ _ 16 s.val (by omega) (Cert.PoolIdeal.Val.cnt16 s)]
  have e1 : min (gix3 (res_main_v103 V0) (ix2 s 0)).toInt.toNat 2048 = s.val + 1 - 16 := by
    rw [gix3_0, v103_at, lo16]; omega
  have e2 : (⟨min (gix3 (res_main_v103 V0) (ix2 s 1)).toInt.toNat 3, by omega⟩ : Fin 4) = 3 := by
    apply Fin.ext
    show min (gix3 (res_main_v103 V0) (ix2 s 1)).toInt.toNat 3 = 3
    rw [gix3_1]; rfl
  rw [e2]
  have e0 : 1 + s.val = s.val + 1 := by omega
  show ((∑ i ∈ Finset.range (1 + s.val), _) - (∑ i ∈ Finset.range (min (gix3 (res_main_v103 V0) (ix2 s 0)).toInt.toNat 2048), _)) * _ - _ = _
  rw [e0, e1, window _ (fun i => U_real _ hZ _ _ i)]
  unfold Cert.PoolIdeal.Val.pl
  refine congrArg₂ (· - ·) rfl ?_
  unfold Cert.PoolIdeal.Val.U
  rw [dif_pos s.isLt]
  rfl

end Cert.PoolRefIdeal.Val

end
-- ==== Proof.PoolClaim.lean ====
/- Pooling call: the value claim. -/
module

public import proofs.«01_k».proof.Proof.PoolRef
public import proofs.«01_k».proof.Defs
public import proofs.«01_k».proof.Proof.Gen.Pre_finite_pool
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolRefIdeal.Val
open Cert.PoolRefIdeal Cert.PoolRefIdeal.Gen Cert.PoolRefIdeal.Value

/-- The four groups' pooled values, stacked. -/
def stk (P0 P1 P2 P3 : FVec Ideal S4x2048x256 .f32) : FVec Ideal S4x2048x4x256 .f32 :=
  concatenate S4x2048x4x256 2 [⟨S4x2048x1x256, (broadcastInDim S4x2048x1x256 ![0, 1, 3] bcast_S4x2048x256_S4x2048x1x256_0_1_3 P0)⟩, ⟨S4x2048x1x256, (broadcastInDim S4x2048x1x256 ![0, 1, 3] bcast_S4x2048x256_S4x2048x1x256_0_1_3 P1)⟩, ⟨S4x2048x1x256, (broadcastInDim S4x2048x1x256 ![0, 1, 3] bcast_S4x2048x256_S4x2048x1x256_0_1_3 P2)⟩, ⟨S4x2048x1x256, (broadcastInDim S4x2048x1x256 ![0, 1, 3] bcast_S4x2048x256_S4x2048x1x256_0_1_3 P3)⟩] concatenates_S4x2048x1x256_S4x2048x1x256_S4x2048x1x256_S4x2048x1x256_S4x2048x4x256_d2

theorem stk_at0 (P0 P1 P2 P3 : FVec Ideal S4x2048x256 .f32) (b : Fin 4) (s : Fin 2048) (k : Fin 256) : stk P0 P1 P2 P3 (ix4 b s 0 k) = P0 (ix3 b s k) := by
  pointwise [stk]

theorem stk_at1 (P0 P1 P2 P3 : FVec Ideal S4x2048x256 .f32) (b : Fin 4) (s : Fin 2048) (k : Fin 256) : stk P0 P1 P2 P3 (ix4 b s 1 k) = P1 (ix3 b s k) := by
  pointwise [stk]

theorem stk_at2 (P0 P1 P2 P3 : FVec Ideal S4x2048x256 .f32) (b : Fin 4) (s : Fin 2048) (k : Fin 256) : stk P0 P1 P2 P3 (ix4 b s 2 k) = P2 (ix3 b s k) := by
  pointwise [stk]

theorem stk_at3 (P0 P1 P2 P3 : FVec Ideal S4x2048x256 .f32) (b : Fin 4) (s : Fin 2048) (k : Fin 256) : stk P0 P1 P2 P3 (ix4 b s 3 k) = P3 (ix3 b s k) := by
  pointwise [stk]

theorem v133_eq (V0 : Valuation τ sig (Elt Ideal)) : res_main_v133 V0 = stk (pg0 (res_main_v1 V0) (res_main_v3 V0) (res_main_v10 V0) (res_main_v4 V0)) (pg1 (res_main_v1 V0) (res_main_v3 V0) (res_main_v41 V0) (res_main_v4 V0)) (pg2 (res_main_v1 V0) (res_main_v3 V0) (res_main_v72 V0) (res_main_v4 V0)) (pg3 (res_main_v1 V0) (res_main_v3 V0) (res_main_v103 V0) (res_main_v4 V0)) := rfl

theorem v133_at (V0 : Valuation τ sig (Elt Ideal)) (hZ : ∀ i : S8192x1024.Idx, ∃ x : ℝ, (V0 (Proc.devRef .tc main_arg0)) i = (x : EReal)) (b : Fin 4) (s : Fin 2048) (g : Fin 4) (k : Fin 256) :
    res_main_v133 V0 (ix4 b s g k) = Cert.PoolIdeal.Val.pl (V0 (Proc.devRef .tc main_arg0)) (2 ^ (g.val + 1)) b ⟨256 * g.val + k.val, by omega⟩ s.val := by
  rw [v133_eq]
  match g with
  | ⟨0, _⟩ => exact (stk_at0 _ _ _ _ b s k).trans (pool0_at V0 hZ b s k)
  | ⟨1, _⟩ => exact (stk_at1 _ _ _ _ b s k).trans (pool1_at V0 hZ b s k)
  | ⟨2, _⟩ => exact (stk_at2 _ _ _ _ b s k).trans (pool2_at V0 hZ b s k)
  | ⟨3, _⟩ => exact (stk_at3 _ _ _ _ b s k).trans (pool3_at V0 hZ b s k)

/-- The mixed channels as the reference writes them. -/
def mx (W : FVec Ideal S1x4x256x256 .f32) (P : FVec Ideal S4x2048x4x256 .f32) (sc : FVec Ideal S1x1024 .f32) : FVec Ideal S4x2048x1024 .f32 :=
  mulf (shapeCast _ (transpose S4x2048x4x256 [2, 3, 0, 1] (Host.dotGeneral dot_S4x256x256_S4x2048x4x256_S4x256x4x2048_1_3_2_01_0_2 none (shapeCast _ W shapeCasts_S1x4x256x256_S4x256x256) P) transposes_S4x256x4x2048_S4x2048x4x256_2_3_0_1) shapeCasts_S4x2048x4x256_S4x2048x1024) (broadcastInDim S4x2048x1024 ![0, 1, 2] bcast_S1x1x1024_S4x2048x1024_0_1_2 (broadcastInDim S1x1x1024 ![2] bcast_S1024_S1x1x1024_2 (shapeCast _ sc shapeCasts_S1x1024_S1024)))

theorem mx_at (W : FVec Ideal S1x4x256x256 .f32) (P : FVec Ideal S4x2048x4x256 .f32) (sc : FVec Ideal S1x1024 .f32) (b : Fin 4) (s : Fin 2048) (q : Fin 1024) :
    mx W P sc (ix3 b s q) = (∑ k : Fin 256, W (ix4 0 ⟨q.val / 256, by omega⟩ k ⟨q.val % 256, by omega⟩) * P (ix4 b s ⟨q.val / 256, by omega⟩ k)) * sc (ix2 0 q) := by
  pointwise [mx]

/-- The normalised row as the reference writes it. -/
def nrm (Q : FVec Ideal S4x2048x1024 .f32) (gn : FVec Ideal S1x1024 .f32) : FVec Ideal S8192x1024 .bf16 :=
  shapeCast _ (truncf .bf16 (mulf (mulf Q (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf Q Q) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ gn shapeCasts_S1x1024_S1024)))) bitsLt_bf16_f32) shapeCasts_S4x2048x1024_S8192x1024

theorem nrm_at (Q : FVec Ideal S4x2048x1024 .f32) (gn : FVec Ideal S1x1024 .f32) (r : Fin 8192) (q : Fin 1024) :
    nrm Q gn (ix2 r q) = Q (ix3 ⟨r.val / 2048, by omega⟩ ⟨r.val % 2048, by omega⟩ q) *
      Ideal.rsqrt (Ideal.div (∑ k : Fin 1024, Q (ix3 ⟨r.val / 2048, by omega⟩ ⟨r.val % 2048, by omega⟩ k) * Q (ix3 ⟨r.val / 2048, by omega⟩ ⟨r.val % 2048, by omega⟩ k)) (Ideal.ofBits FTy.f32 0x44800000#32)
      + Ideal.ofBits FTy.f32 0x358637BD#32) * gn (ix2 0 q) := by
  pointwise [nrm]

/-- The reference's term at an index is the function the kernel computes. -/
theorem ref_at (V0 : Valuation τ sig (Elt Ideal)) (hZ : ∀ i : S8192x1024.Idx, ∃ x : ℝ, (V0 (Proc.devRef .tc main_arg0)) i = (x : EReal)) (r : Fin 8192) (q : Fin 1024) :
    nrm (res_main_v141 V0) (V0 (Proc.devRef .tc main_arg3)) (ix2 r q) = Cert.PoolIdeal.Val.G (V0 (Proc.devRef .tc main_arg0)) (V0 (Proc.devRef .tc main_arg1))
      (V0 (Proc.devRef .tc main_arg2)) (V0 (Proc.devRef .tc main_arg3)) r q := by
  have hh : ∀ q : Fin 1024, res_main_v141 V0 (ix3 ⟨r.val / 2048, by omega⟩ ⟨r.val % 2048, by omega⟩ q) = Cert.PoolIdeal.Val.mixq (V0 (Proc.devRef .tc main_arg0)) (V0 (Proc.devRef .tc main_arg1))
      (V0 (Proc.devRef .tc main_arg2)) r q := by
    intro q
    have e : res_main_v141 V0 = mx (V0 (Proc.devRef .tc main_arg1)) (res_main_v133 V0) (V0 (Proc.devRef .tc main_arg2)) := rfl
    rw [e, mx_at]
    unfold Cert.PoolIdeal.Val.mixq Cert.PoolIdeal.Val.mix
    refine congrArg₂ (· * ·) (Finset.sum_congr rfl fun k _ => ?_) (congrArg _ ?_)
    · rw [v133_at V0 hZ, mul_comm]
    · refine congrArg (ix2 (0 : Fin 1)) (Fin.ext ?_)
      show q.val = 256 * (q.val / 256) + q.val % 256
      omega
  rw [nrm_at]
  simp only [hh]
  rfl

theorem top_eq : Ideal.ofBits FTy.f32 0x7F800000#32 = ⊤ := by
  simp [Ideal.ofBits, Ideal.ieee]

/-- The precondition says that every activation is a real number. -/
theorem finite_of_pre (Z : FVec Ideal S8192x1024 .bf16) (W : FVec Ideal S1x4x256x256 .f32) (sc gn : FVec Ideal S1x1024 .f32)
    (h : Cert.Pre_finite_pool.fn (F := Ideal) Z W sc gn = fun _ => 1#1) (i : S8192x1024.Idx) : ∃ x : ℝ, Z i = (x : EReal) := by
  have h1 := congrFun h i
  have h2 : Ideal.cmp CmpFPredicate.olt (max (Z i) (-(Z i))) (Ideal.ofBits FTy.f32 0x7F800000#32) = 1#1 := h1
  rw [top_eq] at h2
  have h3 : max (Z i) (-(Z i)) < ⊤ := by
    by_contra hn
    have h4 : Ideal.cmp CmpFPredicate.olt (max (Z i) (-(Z i))) ⊤ = 0#1 := by
      simp [Ideal.cmp, hn]
    rw [h4] at h2
    exact absurd h2 (by decide)
  have h5 := max_lt_iff.mp h3
  generalize Z i = z at h5 ⊢
  induction z using EReal.rec with
  | bot => exact absurd h5.2 (by simp)
  | top => exact absurd h5.1 (by simp)
  | coe x => exact ⟨x, rfl⟩

end Cert.PoolRefIdeal.Val

namespace Cert.Proof

theorem pool_algebraic : Cert.algebraic_PoolIdeal_PoolRefIdeal_pre_finite_pool := by
  pair_intro
  · run_from Cert.PoolIdeal.Gen.run_main m g
  · run_from Cert.PoolRefIdeal.Value.run m' g'
    rw [Cert.PoolIdeal.Val.final m c]
    funext j
    idx_vars j
    have a := hagree c
    rw [← a.2.2.2]
    refine (Cert.PoolRefIdeal.Val.ref_at (StableHlo.launchContents m' c) ?_ _ _).trans ?_
    · intro i
      show ∃ x : ℝ, m' ((c.tc : Thread Cert.PoolRefIdeal.nD Cert.PoolRefIdeal.τ).loc Cert.PoolRefIdeal.main_arg0) i = (x : EReal)
      rw [a.1]
      exact Cert.PoolRefIdeal.Val.finite_of_pre _ _ _ _ (hpre c) i
    · show Cert.PoolIdeal.Val.G (m' ((c.tc : Thread Cert.PoolRefIdeal.nD Cert.PoolRefIdeal.τ).loc Cert.PoolRefIdeal.main_arg0))
        (m' ((c.tc : Thread Cert.PoolRefIdeal.nD Cert.PoolRefIdeal.τ).loc Cert.PoolRefIdeal.main_arg1))
        (m' ((c.tc : Thread Cert.PoolRefIdeal.nD Cert.PoolRefIdeal.τ).loc Cert.PoolRefIdeal.main_arg2))
        (m' ((c.tc : Thread Cert.PoolRefIdeal.nD Cert.PoolRefIdeal.τ).loc Cert.PoolRefIdeal.main_arg3)) _ _ = _
      rw [a.1, a.2.1, a.2.2.1, a.2.2.2]

end Cert.Proof

end
-- ==== Proof.AdaValue.lean ====
/- The modulation vectors over the extended reals: what the kernel leaves in its result array. -/
module

public import proofs.«01_k».proof.Proof.Gen.AdaIdeal.Value
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Val

open Cert.AdaIdeal Cert.AdaIdeal.Gen

variable (m : (ℓ : Loc nD τ sig) → Buf (Elt Ideal) ℓ)

/-- The SiLU of a number. -/
def silu (x : EReal) : EReal := x * Ideal.logistic x

theorem pay1_at (v0 : Vec Ideal S8x2048 .f32) (v4 : Vec Ideal S2048x1024 .f32) (v8 : Vec Ideal S1x1024 .f32)
    (p : Fin 8) (q : Fin 1024) :
    k0_pay1 v0 v4 v8 (ix2 p q) = (∑ k : Fin 2048, silu (v0 (ix2 p k)) * v4 (ix2 k q)) + v8 (ix2 0 q) := by
  unfold silu
  pointwise [k0_pay1]

theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The call's result as a function of its arguments. -/
def G (C : FVec Ideal S8x2048 .f32) (W : FVec Ideal S1x2048x12288 .f32) (B : FVec Ideal S1x12288 .f32)
    (r : Fin 8) (q : Fin 12288) : EReal :=
  (∑ k : Fin 2048, silu (C (ix2 r k)) * W (ix3 0 k q)) + B (ix2 0 q)

theorem point (c : Dev nD) (t : Fin cfg0.N) (p : Fin 8) (j : Fin 1024) (r : Fin 8) (q : Fin 12288)
    (hr : r.val = p.val) (hq : q.val = t.val * 1024 + j.val) :
    k0_pay1 (iblk m c 0 t) (iblk m c 1 t) (iblk m c 2 t) (ix2 p j)
      = G (m ((c : Thread nD τ).loc main_arg0)) (m ((c : Thread nD τ).loc main_arg1)) (m ((c : Thread nD τ).loc main_arg2)) r q := by
  rw [pay1_at]
  unfold G
  have hN : t.val < 12 := lt_of_lt_of_eq t.isLt N_0
  blk_point [iblk, V, idx t]

theorem final (c : Dev nD) : (dats m 0 c).arrAt 3 (cfgs 0).N
    = fun i : S8x12288.Idx => G (m ((c : Thread nD τ).loc main_arg0)) (m ((c : Thread nD τ).loc main_arg1))
        (m ((c : Thread nD τ).loc main_arg2)) (i 0) (i 1) := by
  refine (dats m 0 c).arrAt_eq_of_covers 3 _ (by decide +kernel) fun t hf y => ?_
  blk_simp
  rw [after0_3]; frame_out
  have hN : t.val < 12 := lt_of_lt_of_eq t.isLt N_0
  have hy : y = (ix2 (y 0) (y 1) : S8x1024.Idx) := eq_ix2 (n0 := 8) (n1 := 1024) y
  refine Eq.trans (congrArg _ hy) (point m c t (y 0) (y 1) _ _ ?_ ?_)
  all_goals blk_simp [idx t]

end Cert.AdaIdeal.Val

end
-- ==== Proof.AdaClaim.lean ====
/- The modulation vectors over the extended reals: the claim that the kernel's result is the reference's. -/
module

public import proofs.«01_k».proof.Proof.AdaValue
public import proofs.«01_k».proof.Defs
public import proofs.«01_k».proof.Proof.Gen.AdaRefIdeal.Run
public import Idealize.ShloMosaic.Lib.Pipeline.ValueKit
public import Idealize.ShloMosaic.Lib.Pointwise
public import Idealize.ShloMosaic.Lib.Pipeline.ReadBack
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaRefIdeal.Val
open Cert.AdaRefIdeal Cert.AdaRefIdeal.Gen

/-- The reference's term. -/
def A (C : FVec Ideal S8x2048 .f32) (W : FVec Ideal S1x2048x12288 .f32) (B : FVec Ideal S1x12288 .f32) : FVec Ideal S8x12288 .f32 :=
  addf (Host.dotGeneral dot_S8x2048_S2048x12288_S8x12288_1_0_0_1_n_n none (mulf C (Host.divf (broadcastInDim S8x2048 ![] bcast_S_S8x2048 (constant S_ .f32 0x3F800000#32)) (addf (broadcastInDim S8x2048 ![] bcast_S_S8x2048 (constant S_ .f32 0x3F800000#32)) (Host.exp (Host.negf C))))) (shapeCast _ W shapeCasts_S1x2048x12288_S2048x12288)) (broadcastInDim S8x12288 ![0, 1] bcast_S1x12288_S8x12288_0_1 (broadcastInDim S1x12288 ![1] bcast_S12288_S1x12288_1 (shapeCast _ B shapeCasts_S1x12288_S12288)))

/-- The reference's term at an index is the function the kernel computes. -/
theorem ref_at (C : FVec Ideal S8x2048 .f32) (W : FVec Ideal S1x2048x12288 .f32) (B : FVec Ideal S1x12288 .f32)
    (r : Fin 8) (q : Fin 12288) : A C W B (ix2 r q) = Cert.AdaIdeal.Val.G C W B r q := by
  unfold Cert.AdaIdeal.Val.G Cert.AdaIdeal.Val.silu
  pointwise [A]
  rfl

end Cert.AdaRefIdeal.Val

namespace Cert.Proof

theorem ada_algebraic : Cert.algebraic_AdaIdeal_AdaRefIdeal := by
  pair_intro
  · run_from Cert.AdaIdeal.Gen.run_main m g
  · run_from Cert.AdaRefIdeal.Value.run m' g'
    rw [Cert.AdaIdeal.Val.final m c]
    funext j
    idx_vars j
    exact Cert.AdaRefIdeal.Val.ref_at _ _ _ _ _

end Cert.Proof

end
-- ==== Proof.DsaIdealSearch.lean ====
/- The sparse attention call's threshold search: the loop ends after at most 320 rounds and leaves the scores as
   they were. -/
module

public import proofs.«01_k».proof.Proof.Gen.DsaIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.DsaIdeal.Run

open Cert.DsaIdeal Cert.DsaIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rounds left bound the search. -/
abbrev 𝒱₀ : Variants := Variants.nat

/-- The scores, held at some contents. -/
abbrev sc (c : Dev nD) (arg10 : Memref sig .tc .vmem S4x256x512 .f32) (f : BufTy.Contents (Elt F) arg10.view.ty) : sProp 𝕄 :=
  iprop(arg10.view.loc (c : Thread nD τ) ↦[arg10.view.set]{fullShare} f)

/-- What the search is: it reads the scores, returns some bounds and leaves the scores as they were. -/
def search (c : Dev nD) (arg10 : Memref sig .tc .vmem S4x256x512 .f32) (f : BufTy.Contents (Elt F) arg10.view.ty) :
    sWPT 𝕄 (BitVec 32 × FVec F S256x1 .f32 × FVec F S256x1 .f32 × FVec F S256x1 .f32) := do
  sWPT.consume (sc c arg10 f)
  let r ← sWPT.arbitrary
  sWPT.produce (sc c arg10 f)
  pure r

theorem search_apply (c : Dev nD) (arg10 : Memref sig .tc .vmem S4x256x512 .f32) (f : BufTy.Contents (Elt F) arg10.view.ty)
    (K : BitVec 32 × FVec F S256x1 .f32 × FVec F S256x1 .f32 × FVec F S256x1 .f32 → sProp 𝕄) :
    search c arg10 f K = iprop(sc c arg10 f ∗ ∀ r, sc c arg10 f -∗ K r) := rfl

/-- A conjunction of bits holds only if its first bit does. -/
theorem and_left {a b : BitVec 1} (h : Scalar.andi a b = 1#1) : a = 1#1 := by
  have key : ∀ x y : BitVec 1, x &&& y = 1#1 → x = 1#1 := by decide
  exact key a b h

/-- The search, with `k` rounds left after round `n`. -/
theorem search_le (c : Dev nD) (i : grid0.Coords) (arg10 : Memref sig .tc .vmem S4x256x512 .f32) (harg10 : arg10.IsWhole)
    (f : BufTy.Contents (Elt F) arg10.view.ty) (E : Set ℕ) :
    ∀ k n, n + k = 320 → ∀ (lo hi d : FVec F S256x1 .f32)
      (K : BitVec 32 × FVec F S256x1 .f32 × FVec F S256x1 .f32 × FVec F S256x1 .f32 → sProp 𝕄),
      search c arg10 f K ⊢ wp frame (wpE (defs₀ (F := F)) 𝒱₀ (c : Thread nD τ) (some k)) E
        (defs₀ (F := F) .tc 1 ⟨i, arg10, harg10, BitVec.ofNat 32 n, lo, hi, d⟩) K := by
  intro k
  induction k with
  | zero =>
    intro n hn lo hi d K
    rw [search_apply]
    show _ ⊢ wp frame (wpE (defs₀ (F := F)) 𝒱₀ (c : Thread nD τ) (some 0)) E (cc0_while1 i arg10 harg10 (BitVec.ofNat 32 n) lo hi d) K
    rw [cc0_while1_eq_skeleton]; unfold cc0_while1_skel
    have hn' : n = 320 := by omega
    subst hn'
    simp only [Prog.lift, Prog.bind_op, Prog.bind_ret, Prog.pure_eq_ret]
    rw [if_neg (fun h => absurd (and_left h) (by decide))]
    iintro ⟨H, Hk⟩
    rw [wp_ret]; imodintro
    iapply Hk; iexact H
  | succ k ih =>
    intro n hn lo hi d K
    rw [search_apply]
    show _ ⊢ wp frame (wpE (defs₀ (F := F)) 𝒱₀ (c : Thread nD τ) (some (k + 1))) E (cc0_while1 i arg10 harg10 (BitVec.ofNat 32 n) lo hi d) K
    rw [cc0_while1_eq_skeleton]; unfold cc0_while1_skel
    have hadd : Scalar.addi (BitVec.ofNat 32 n) 1#32 = BitVec.ofNat 32 (n + 1) := (BitVec.ofNat_add n 1).symm
    rw [hadd]
    simp only [Prog.lift, Prog.bind_op, Prog.bind_ret, Prog.pure_eq_ret]
    split
    · iintro ⟨H, Hk⟩
      iapply (Scf.wp_for_bind _ _ _ _ _ _ _ _ _ (fun _ _ => sc c arg10 f) (fun j acc => by
        iintro H
        sl_exec
        sl_step
        iexact H)) $$ H
      iintro %acc H
      iapply (Scf.wp_for_bind _ _ _ _ _ _ _ _ _ (fun _ _ => sc c arg10 f) (fun j acc => by
        iintro H
        sl_exec
        sl_step
        iexact H)) $$ H
      iintro %acc' H
      iapply (wp_call_spec 𝒱₀ (c : Thread nD τ) (some (k + 1)) E (search c arg10 f) k
        (fun u hu => by cases hu; exact Nat.lt_succ_self k) (ih (n + 1) (by omega) _ _ _))
      rw [search_apply]
      isplitl [H]; · iexact H
      iintro %r H
      rw [wp_ret]; imodintro
      iapply Hk; iexact H
    · iintro ⟨H, Hk⟩
      rw [wp_ret]; imodintro
      iapply Hk; iexact H

end Cert.DsaIdeal.Run

end
-- ==== Proof.DsaIdealBody.lean ====
/- The sparse attention call's body: at any point it runs to its end, with its inputs as they were. -/
module

public import proofs.«01_k».proof.Proof.DsaIdealSearch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.DsaIdeal.Run

open Cert.DsaIdeal Cert.DsaIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole buffers, the inputs at their contents, the output and the scratch at anything, runs to its end with
    the inputs as they were. -/
theorem body_runs (c : Dev nD) (E : Set ℕ) (i : grid0.Coords) (arg2 : Memref sig .tc .vmem S8x256x128 .bf16) (harg2 : arg2.IsWhole) (arg3 : Memref sig .tc .vmem S16x256x128 .bf16) (harg3 : arg3.IsWhole) (arg4 : Memref sig .tc .vmem S256x16 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x128 .bf16) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x512 .f32) (harg10 : arg10.IsWhole) (arg11 : Memref sig .tc .vmem S4x256x512 .f32) (harg11 : arg11.IsWhole) (arg12 : Memref sig .tc .vmem S256x1024 .f32) (harg12 : arg12.IsWhole)
    (x0 : Vec F S8x256x128 .bf16) (x1 : Vec F S16x256x128 .bf16) (x2 : Vec F S256x16 .f32) (x3 : Vec F S2048x256 .bf16) (x4 : Vec F S2048x256 .bf16) (x5 : Vec F S2048x128 .bf16) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ (c : Thread nD τ) none) E (cc0_dsa_attn i arg2 harg2 arg3 harg3 arg4 harg4 arg5 harg5 arg6 harg6 arg7 harg7 arg8 harg8 arg9 harg9 arg10 harg10 arg11 harg11 arg12 harg12) K := by
  simp only [cc0_dsa_attn_eq_skeleton]; unfold cc0_dsa_attn_skel
  simp only [k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  iapply (wp_call_spec 𝒱₀ (c : Thread nD τ) none E (search c arg10 _) 320 (fun u hu => nomatch hu)
    (search_le c i arg10 harg10 _ E 320 0 rfl _ _ _))
  rw [search_apply]
  isplitl [HS0]; · iexact HS0
  iintro %r HS0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; iexists _; isplitr
    swap; · iexact H7
    ipureintro; rfl
  isplitl [HS0]
  · iexists _; iexists _; isplitr
    swap; · iexact HS0
    ipureintro; rfl
  isplitl [HS1]
  · iexists _; iexists _; isplitr
    swap; · iexact HS1
    ipureintro; rfl
  iexists _; iexists _; isplitr
  swap; · iexact HS2
  ipureintro; rfl

end Cert.DsaIdeal.Run

end
-- ==== Proof.DsaIdealFrame.lean ====
/- The sparse attention call runs to its end and leaves its arguments as they were. Nothing is said of its result. -/
module

public import proofs.«01_k».proof.Proof.DsaIdealBody
public import proofs.«01_k».proof.Proof.Gen.DsaIdeal.Launch
public import proofs.«01_k».proof.Proof.Gen.DsaIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.DsaIdeal.Run

open Cert.DsaIdeal Cert.DsaIdeal.Gen

open Idealize.ShloMosaic
open Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: as launched. -/
abbrev V (c : Dev nD) (b : Ref sig .tc) : Buf (Elt F) ((c : Thread nD τ).loc b) := m ((c : Thread nD τ).loc b)

theorem main_runs : Pipeline.HMain (Ix := Unit) (Name := ℕ) (U := UR sig nD τ) (Lvl := ℕ) (cfgs (F := F)) 0 defs₀ 𝒱₀ m (main (F := F)) (V m) :=
  Pipeline.hmain_region cfgs 0 defs₀ 𝒱₀ m main fun c => (main_chain c).trans rfl

/-- A window's block at a point. -/
def blk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output's window is left unsaid. -/
def unsaid : Fin 8 → Bool := fun w => decide (w = 7)

/-- The call's proof data: each input's buffer at its block, the output's left unsaid. -/
def dats (_ : Fin 1) (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => Pipeline.Dat.unnamed (cfg := cfg0 (F := F)) 7 t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = blk m c 0 t := by dsimp only [dats]; rfl
theorem before_0 (c : Dev nD) (t : Fin (cfg0 (F := F)).N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem after_1 (c : Dev nD) (t : Fin (cfg0 (F := F)).N) : (dats m 0 c).after 1 t = blk m c 1 t := by dsimp only [dats]; rfl
theorem before_1 (c : Dev nD) (t : Fin (cfg0 (F := F)).N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem after_2 (c : Dev nD) (t : Fin (cfg0 (F := F)).N) : (dats m 0 c).after 2 t = blk m c 2 t := by dsimp only [dats]; rfl
theorem before_2 (c : Dev nD) (t : Fin (cfg0 (F := F)).N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem after_3 (c : Dev nD) (t : Fin (cfg0 (F := F)).N) : (dats m 0 c).after 3 t = blk m c 3 t := by dsimp only [dats]; rfl
theorem before_3 (c : Dev nD) (t : Fin (cfg0 (F := F)).N) (d) : (dats m 0 c).before 3 t d = blk m c 3 t :=
  ((dats m 0 c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem after_4 (c : Dev nD) (t : Fin (cfg0 (F := F)).N) : (dats m 0 c).after 4 t = blk m c 4 t := by dsimp only [dats]; rfl
theorem before_4 (c : Dev nD) (t : Fin (cfg0 (F := F)).N) (d) : (dats m 0 c).before 4 t d = blk m c 4 t :=
  ((dats m 0 c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem after_5 (c : Dev nD) (t : Fin (cfg0 (F := F)).N) : (dats m 0 c).after 5 t = blk m c 5 t := by dsimp only [dats]; rfl
theorem before_5 (c : Dev nD) (t : Fin (cfg0 (F := F)).N) (d) : (dats m 0 c).before 5 t d = blk m c 5 t :=
  ((dats m 0 c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem after_6 (c : Dev nD) (t : Fin (cfg0 (F := F)).N) : (dats m 0 c).after 6 t = blk m c 6 t := by dsimp only [dats]; rfl
theorem before_6 (c : Dev nD) (t : Fin (cfg0 (F := F)).N) (d) : (dats m 0 c).before 6 t d = blk m c 6 t :=
  ((dats m 0 c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)

abbrev scr0 : Memref sig .tc .vmem S4x256x512 .f32 := Memref.whole cc0_scratch0
abbrev scr1 : Memref sig .tc .vmem S4x256x512 .f32 := Memref.whole cc0_scratch1
abbrev scr2 : Memref sig .tc .vmem S256x1024 .f32 := Memref.whole cc0_scratch2

/-- What passes from point to point: the scratch at some contents, and the generator's register. -/
theorem inv_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- What a point's body is given, -/
def given (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

/-- and what it gives back. -/
def back (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

set_option maxHeartbeats 1600000 in
theorem point_runs (c : Dev nD) (t : Fin (cfg0 (F := F)).N) :
    given m c t ⊢ wp frame (wpE (defs₀ (F := F)) 𝒱₀ (c : Thread nD τ) none) Set.univ (bodyAt0 t) (fun _ => back m c t) := by
  unfold given back bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, inv_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7⟩
  iapply (body_runs c Set.univ (grid0.coords t) _ _ _ _ _ _ _ _ _ _ _ _ _ _ _ _ _ _ _ _ _ _ (blk m c 0 t) (blk m c 1 t) (blk m c 2 t) (blk m c 3 t)
    (blk m c 4 t) (blk m c 5 t) (blk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ unsaid := fun t => by
  rw [bigSep_W0, bigSep_W0, row]
  exact triple_restated (point_runs m c t) rfl .rfl fun _ => .rfl

set_option backward.isDefEq.respectTransparency.types false in
set_option maxHeartbeats 1600000 in
/-- The launch: the call runs to its end with every counter at zero. -/
theorem launch_runs : θ_run defs (onTc (τ := τ) (main (F := F))) (s₀ m ρ)
    (fun r => Pipeline.RDat.FramePost (cfgs (F := F) 0) (fun c => (dats m 0 c).toRForget unsaid) (V m) r ∧ r.2.sem = fun _ => 0) :=
  Pipeline.θ_run_frame_forget (Q' := _) cfgs (dats m) (0 : Fin 1) launch0 defs₀ 𝒱₀ unsaid m ρ main
    (hbody := fun c => (obligation m c).loose) (hshare := fun c => (dats m 0 c).share_full fun _ => rfl)
    (howed := fun _ _ => rfl) (V := V m) (hmain := main_runs m) (hA := A_eq m) (hΦ := fun _ _ => rfl)

/-- The arguments end as they were, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.arr_in c 0 rfl).trans (A_eq m c 0),
      (h.1.arr_in c 1 rfl).trans (A_eq m c 1),
      (h.1.arr_in c 2 rfl).trans (A_eq m c 2),
      (h.1.arr_in c 3 rfl).trans (A_eq m c 3),
      (h.1.arr_in c 4 rfl).trans (A_eq m c 4),
      (h.1.arr_in c 5 rfl).trans (A_eq m c 5),
      (h.1.arr_in c 6 rfl).trans (A_eq m c 6)⟩, h.2⟩) (launch_runs m ρ)

end Cert.DsaIdeal.Run

end
-- ==== Proof.lean ====
/- The proof of the certificate's claim: the frames from the generated runs, the value claims from the
   modules under Proof/. -/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnClaim
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.OutProjClaim
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.InProjClaim
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.PoolClaim
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.AdaClaim
public import proofs.«01_k».proof.Proof.DsaFrame
public import proofs.«01_k».proof.Proof.DsaIdealFrame
public import proofs.«01_k».proof.Proof.Gen.DsaRefIdeal.Run
public import Idealize.ShloMosaic.Lib.Claim
public import Idealize.ShloMosaic.Lib.Quiescent

@[expose] public section

noncomputable section

namespace Cert.Proof

open Idealize.ShloMosaic Idealize.SL.Sem

theorem ffn_frame : Cert.quiescent_FfnRefIdeal :=
  fun m g _ => (θ_run _ _ _).mono (fun r h => ⟨fun c => (h c).2, sem_eq_zero_of_no_sems (by decide) r.2⟩)
    (Cert.FfnRefIdeal.Value.run m g)

theorem outProj_frame : Cert.quiescent_OutProjRefIdeal :=
  fun m g _ => (θ_run _ _ _).mono (fun r h => ⟨fun c => (h c).2.2, sem_eq_zero_of_no_sems (by decide) r.2⟩)
    (Cert.OutProjRefIdeal.Value.run m g)

theorem inProj_frame : Cert.quiescent_InProjRefIdeal :=
  fun m g _ => (θ_run _ _ _).mono (fun r h => ⟨fun c => (h c).2.2.2.2.2.2.2, sem_eq_zero_of_no_sems (by decide) r.2⟩)
    (Cert.InProjRefIdeal.Value.run m g)

theorem pool_frame : Cert.quiescent_PoolRefIdeal :=
  fun m g _ => (θ_run _ _ _).mono (fun r h => ⟨fun c => (h c).2, sem_eq_zero_of_no_sems (by decide) r.2⟩)
    (Cert.PoolRefIdeal.Value.run m g)

theorem ada_frame : Cert.quiescent_AdaRefIdeal :=
  fun m g _ => (θ_run _ _ _).mono (fun r h => ⟨fun c => (h c).2, sem_eq_zero_of_no_sems (by decide) r.2⟩)
    (Cert.AdaRefIdeal.Value.run m g)

theorem dsa_frame : Cert.quiescent_DsaRefIdeal :=
  fun m g _ => (θ_run _ _ _).mono (fun r h => ⟨fun c => (h c).2, sem_eq_zero_of_no_sems (by decide) r.2⟩)
    (Cert.DsaRefIdeal.Value.run m g)

theorem claim : Cert.Claim :=
  ⟨Cert.Ffn.Gen.facts, Cert.FfnIdeal.Gen.facts, Cert.FfnRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.Pool.Gen.facts, Cert.PoolIdeal.Gen.facts, Cert.PoolRefIdeal.Gen.facts, Cert.Ada.Gen.facts, Cert.AdaIdeal.Gen.facts, Cert.AdaRefIdeal.Gen.facts, Cert.Dsa.Gen.facts, Cert.DsaIdeal.Gen.facts, Cert.DsaRefIdeal.Gen.facts, Cert.Pre_finite_pool.Gen.facts,
    fun m ρ _ => Cert.Ffn.Gen.frame m ρ, fun m ρ _ => Cert.FfnIdeal.Gen.frame m ρ, ffn_frame, fun m ρ _ => Cert.OutProj.Gen.frame m ρ, fun m ρ _ => Cert.OutProjIdeal.Gen.frame m ρ, outProj_frame, fun m ρ _ => Cert.InProj.Gen.frame m ρ, fun m ρ _ => Cert.InProjIdeal.Gen.frame m ρ, inProj_frame, fun m ρ _ => Cert.Pool.Gen.frame m ρ, fun m ρ _ => Cert.PoolIdeal.Gen.frame m ρ, fun m ρ _ => Cert.PoolIdeal.Gen.frame m ρ, pool_frame, fun m g _ => pool_frame m g trivial, fun m ρ _ => Cert.Ada.Gen.frame m ρ, fun m ρ _ => Cert.AdaIdeal.Gen.frame m ρ, ada_frame,
    fun m ρ _ => Cert.Dsa.Run.frame m ρ, fun m ρ _ => Cert.DsaIdeal.Run.frame m ρ, dsa_frame,
    trivial, ffn_algebraic, trivial, outProj_algebraic, trivial, inProj_algebraic, trivial, pool_algebraic, trivial, ada_algebraic, trivial⟩

end Cert.Proof

end
